-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_untied [hPre_finite_and_untied : Cert.Pre_finite_and_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_untied [hPre_finite_and_untied : Cert.Pre_finite_and_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite_and_untied [hKernelIdeal : Cert.KernelIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite_and_untied [hReferenceIdeal : Cert.ReferenceIdeal.Facts] [hPre_finite_and_untied : Cert.Pre_finite_and_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_finite_and_untied [hKernelIdeal : Cert.KernelIdeal.Facts] [hReferenceIdeal : Cert.ReferenceIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_and_untied : Cert.Pre_finite_and_untied.Facts),
    quiescent_Kernel (hKernel := hKernel)
    ∧ quiescent_KernelIdeal (hKernelIdeal := hKernelIdeal)
    ∧ quiescent_KernelIdeal_pre_finite_and_untied (hKernelIdeal := hKernelIdeal) (hPre_finite_and_untied := hPre_finite_and_untied)
    ∧ quiescent_ReferenceIdeal (hReferenceIdeal := hReferenceIdeal)
    ∧ quiescent_ReferenceIdeal_pre_finite_and_untied (hReferenceIdeal := hReferenceIdeal) (hPre_finite_and_untied := hPre_finite_and_untied)
    ∧ preserves_Kernel_KernelIdeal
    ∧ algebraic_KernelIdeal_ReferenceIdeal_pre_finite_and_untied (hKernelIdeal := hKernelIdeal) (hReferenceIdeal := hReferenceIdeal) (hPre_finite_and_untied := hPre_finite_and_untied)
-- ==== Pre_finite_and_untied.lean ====
abbrev S8x3x4096 : Shape := ⟨3, ![8, 3, 4096]⟩
abbrev S8x128x4096 : Shape := ⟨3, ![8, 128, 4096]⟩
abbrev S8x3x1024 : Shape := ⟨3, ![8, 3, 1024]⟩
abbrev S8x256x1024 : Shape := ⟨3, ![8, 256, 1024]⟩
abbrev S8x256 : Shape := ⟨2, ![8, 256]⟩
abbrev S256x384 : Shape := ⟨2, ![256, 384]⟩
abbrev S256 : Shape := ⟨1, ![256]⟩
abbrev S1024x256 : Shape := ⟨2, ![1024, 256]⟩
abbrev S1024 : Shape := ⟨1, ![1024]⟩
abbrev S256x1024 : Shape := ⟨2, ![256, 1024]⟩
abbrev S512x256 : Shape := ⟨2, ![512, 256]⟩
abbrev S512 : Shape := ⟨1, ![512]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S8x4096x4 : Shape := ⟨3, ![8, 4096, 4]⟩
abbrev S8x4096x3 : Shape := ⟨3, ![8, 4096, 3]⟩

class Facts : Prop where
  bcast_S_S8x4096x1024 : S_.BroadcastsInDim S8x4096x1024 (![] : Fin 0 → Fin S8x4096x1024.rank)
  reducesTo_S8x3x4096_S8x4096_d1 : S8x3x4096.ReducesTo [1] S8x4096
  h_S_ : 0 < S_.numel
  bcast_S8x4096_S8x4096x1_0_1 : S8x4096.BroadcastsInDim S8x4096x1 (![0, 1] : Fin 2 → Fin S8x4096x1.rank)
  bcast_S8x4096x1_S8x4096x1024_0_1_2 : S8x4096x1.BroadcastsInDim S8x4096x1024 (![0, 1, 2] : Fin 3 → Fin S8x4096x1024.rank)
  reducesTo_S8x3x1024_S8x1024_d1 : S8x3x1024.ReducesTo [1] S8x1024
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  sliceFits_S8x4096x1024_S8x4096x4 : S8x4096x1024.Slices (fun _ => 0) S8x4096x4
  slices_S8x4096x4_S8x4096x3_0_0_0 : S8x4096x4.Slices ![0, 0, 0] S8x4096x3
  slices_S8x4096x4_S8x4096x3_0_0_1 : S8x4096x4.Slices ![0, 0, 1] S8x4096x3
  bcast_S_S8x3x4096 : S_.BroadcastsInDim S8x3x4096 (![] : Fin 0 → Fin S8x3x4096.rank)
  bcast_S_S8x128x4096 : S_.BroadcastsInDim S8x128x4096 (![] : Fin 0 → Fin S8x128x4096.rank)
  bcast_S_S8x3x1024 : S_.BroadcastsInDim S8x3x1024 (![] : Fin 0 → Fin S8x3x1024.rank)
  bcast_S_S8x256x1024 : S_.BroadcastsInDim S8x256x1024 (![] : Fin 0 → Fin S8x256x1024.rank)
  bcast_S_S256x384 : S_.BroadcastsInDim S256x384 (![] : Fin 0 → Fin S256x384.rank)
  bcast_S_S256 : S_.BroadcastsInDim S256 (![] : Fin 0 → Fin S256.rank)
  bcast_S_S1024x256 : S_.BroadcastsInDim S1024x256 (![] : Fin 0 → Fin S1024x256.rank)
  bcast_S_S1024 : S_.BroadcastsInDim S1024 (![] : Fin 0 → Fin S1024.rank)
  bcast_S_S256x1024 : S_.BroadcastsInDim S256x1024 (![] : Fin 0 → Fin S256x1024.rank)
  dot_S8x3x4096_S8x3x1024_S8x4096x1024_1_1_2_2_0_0_wf : DotDims.WF S8x3x4096 S8x3x1024 S8x4096x1024 [1] [1] [2] [2] [0] [0]

variable [Facts]

def dot_S8x3x4096_S8x3x1024_S8x4096x1024_1_1_2_2_0_0 : DotDims S8x3x4096 S8x3x1024 S8x4096x1024 where
  lhsContracting := [1]
  rhsContracting := [1]
  lhsNonContracting := [2]
  rhsNonContracting := [2]
  lhsBatch := [0]
  rhsBatch := [0]
  wf := dot_S8x3x4096_S8x3x1024_S8x4096x1024_1_1_2_2_0_0_wf
def fn_part3 {F : FTy → Type} [FloatOps F] (main_arg15 : FVec F S256 .f32) (main_v16 : IVec S8x4096x3 1) (main_v19 : IVec S8x3x4096 1) (main_v22 : IVec S8x128x4096 1) (main_v25 : IVec S8x3x1024 1) (main_v28 : IVec S8x256x1024 1) (main_v31 : IVec S256x384 1) (main_v34 : IVec S256 1) (main_v37 : IVec S256 1) (main_v40 : IVec S256 1) (main_v43 : IVec S1024x256 1) (main_v46 : IVec S1024 1) (main_v49 : IVec S1024 1) (main_v52 : IVec S1024 1) (main_v53 : FVec F S256x1024 .f32) (main_cst_14 : FVec F S_ .f32) : IVec S8x4096x3 1 × IVec S8x3x4096 1 × IVec S8x128x4096 1 × IVec S8x3x1024 1 × IVec S8x256x1024 1 × IVec S256x384 1 × IVec S256 1 × IVec S256 1 × IVec S256 1 × IVec S1024x256 1 × IVec S1024 1 × IVec S1024 1 × IVec S1024 1 × IVec S256x1024 1 × IVec S256 1 :=
  let main_v54 : FVec F S256x1024 .f32 := broadcastInDim S256x1024 ![] bcast_S_S256x1024 main_cst_14
  let main_v55 : IVec S256x1024 1 := cmpf .olt main_v53 main_v54
  let main_v56 : FVec F S256 .f32 := Host.absf main_arg15
  let main_cst_15 : FVec F S_ .f32 := constant S_ .f32 0x7F800000#32
  let main_v57 : FVec F S256 .f32 := broadcastInDim S256 ![] bcast_S_S256 main_cst_15
  let main_v58 : IVec S256 1 := cmpf .olt main_v56 main_v57
  (main_v16, main_v19, main_v22, main_v25, main_v28, main_v31, main_v34, main_v37, main_v40, main_v43, main_v46, main_v49, main_v52, main_v55, main_v58)

def fn_part2 {F : FTy → Type} [FloatOps F] (main_arg9 : FVec F S256 .f32) (main_arg10 : FVec F S1024x256 .f32) (main_arg11 : FVec F S1024 .f32) (main_arg12 : FVec F S1024 .f32) (main_arg13 : FVec F S1024 .f32) (main_arg14 : FVec F S256x1024 .f32) (main_arg15 : FVec F S256 .f32) (main_v16 : IVec S8x4096x3 1) (main_v19 : IVec S8x3x4096 1) (main_v22 : IVec S8x128x4096 1) (main_v25 : IVec S8x3x1024 1) (main_v28 : IVec S8x256x1024 1) (main_v31 : IVec S256x384 1) (main_v34 : IVec S256 1) (main_v35 : FVec F S256 .f32) (main_cst_8 : FVec F S_ .f32) : IVec S8x4096x3 1 × IVec S8x3x4096 1 × IVec S8x128x4096 1 × IVec S8x3x1024 1 × IVec S8x256x1024 1 × IVec S256x384 1 × IVec S256 1 × IVec S256 1 × IVec S256 1 × IVec S1024x256 1 × IVec S1024 1 × IVec S1024 1 × IVec S1024 1 × IVec S256x1024 1 × IVec S256 1 :=
  let main_v36 : FVec F S256 .f32 := broadcastInDim S256 ![] bcast_S_S256 main_cst_8
  let main_v37 : IVec S256 1 := cmpf .olt main_v35 main_v36
  let main_v38 : FVec F S256 .f32 := Host.absf main_arg9
  let main_cst_9 : FVec F S_ .f32 := constant S_ .f32 0x7F800000#32
  let main_v39 : FVec F S256 .f32 := broadcastInDim S256 ![] bcast_S_S256 main_cst_9
  let main_v40 : IVec S256 1 := cmpf .olt main_v38 main_v39
  let main_v41 : FVec F S1024x256 .f32 := Host.absf main_arg10
  let main_cst_10 : FVec F S_ .f32 := constant S_ .f32 0x7F800000#32
  let main_v42 : FVec F S1024x256 .f32 := broadcastInDim S1024x256 ![] bcast_S_S1024x256 main_cst_10
  let main_v43 : IVec S1024x256 1 := cmpf .olt main_v41 main_v42
  let main_v44 : FVec F S1024 .f32 := Host.absf main_arg11
  let main_cst_11 : FVec F S_ .f32 := constant S_ .f32 0x7F800000#32
  let main_v45 : FVec F S1024 .f32 := broadcastInDim S1024 ![] bcast_S_S1024 main_cst_11
  let main_v46 : IVec S1024 1 := cmpf .olt main_v44 main_v45
  let main_v47 : FVec F S1024 .f32 := Host.absf main_arg12
  let main_cst_12 : FVec F S_ .f32 := constant S_ .f32 0x7F800000#32
  let main_v48 : FVec F S1024 .f32 := broadcastInDim S1024 ![] bcast_S_S1024 main_cst_12
  let main_v49 : IVec S1024 1 := cmpf .olt main_v47 main_v48
  let main_v50 : FVec F S1024 .f32 := Host.absf main_arg13
  let main_cst_13 : FVec F S_ .f32 := constant S_ .f32 0x7F800000#32
  let main_v51 : FVec F S1024 .f32 := broadcastInDim S1024 ![] bcast_S_S1024 main_cst_13
  let main_v52 : IVec S1024 1 := cmpf .olt main_v50 main_v51
  let main_v53 : FVec F S256x1024 .f32 := Host.absf main_arg14
  let main_cst_14 : FVec F S_ .f32 := constant S_ .f32 0x7F800000#32
  fn_part3 (F := F) main_arg15 main_v16 main_v19 main_v22 main_v25 main_v28 main_v31 main_v34 main_v37 main_v40 main_v43 main_v46 main_v49 main_v52 main_v53 main_cst_14

def fn_part1 {F : FTy → Type} [FloatOps F] (main_arg1 : FVec F S8x128x4096 .f32) (main_arg2 : FVec F S8x3x1024 .f32) (main_arg3 : FVec F S8x256x1024 .f32) (main_arg6 : FVec F S256x384 .f32) (main_arg7 : FVec F S256 .f32) (main_arg8 : FVec F S256 .f32) (main_arg9 : FVec F S256 .f32) (main_arg10 : FVec F S1024x256 .f32) (main_arg11 : FVec F S1024 .f32) (main_arg12 : FVec F S1024 .f32) (main_arg13 : FVec F S1024 .f32) (main_arg14 : FVec F S256x1024 .f32) (main_arg15 : FVec F S256 .f32) (main_v16 : IVec S8x4096x3 1) (main_v17 : FVec F S8x3x4096 .f32) (main_cst_2 : FVec F S_ .f32) : IVec S8x4096x3 1 × IVec S8x3x4096 1 × IVec S8x128x4096 1 × IVec S8x3x1024 1 × IVec S8x256x1024 1 × IVec S256x384 1 × IVec S256 1 × IVec S256 1 × IVec S256 1 × IVec S1024x256 1 × IVec S1024 1 × IVec S1024 1 × IVec S1024 1 × IVec S256x1024 1 × IVec S256 1 :=
  let main_v18 : FVec F S8x3x4096 .f32 := broadcastInDim S8x3x4096 ![] bcast_S_S8x3x4096 main_cst_2
  let main_v19 : IVec S8x3x4096 1 := cmpf .olt main_v17 main_v18
  let main_v20 : FVec F S8x128x4096 .f32 := Host.absf main_arg1
  let main_cst_3 : FVec F S_ .f32 := constant S_ .f32 0x7F800000#32
  let main_v21 : FVec F S8x128x4096 .f32 := broadcastInDim S8x128x4096 ![] bcast_S_S8x128x4096 main_cst_3
  let main_v22 : IVec S8x128x4096 1 := cmpf .olt main_v20 main_v21
  let main_v23 : FVec F S8x3x1024 .f32 := Host.absf main_arg2
  let main_cst_4 : FVec F S_ .f32 := constant S_ .f32 0x7F800000#32
  let main_v24 : FVec F S8x3x1024 .f32 := broadcastInDim S8x3x1024 ![] bcast_S_S8x3x1024 main_cst_4
  let main_v25 : IVec S8x3x1024 1 := cmpf .olt main_v23 main_v24
  let main_v26 : FVec F S8x256x1024 .f32 := Host.absf main_arg3
  let main_cst_5 : FVec F S_ .f32 := constant S_ .f32 0x7F800000#32
  let main_v27 : FVec F S8x256x1024 .f32 := broadcastInDim S8x256x1024 ![] bcast_S_S8x256x1024 main_cst_5
  let main_v28 : IVec S8x256x1024 1 := cmpf .olt main_v26 main_v27
  let main_v29 : FVec F S256x384 .f32 := Host.absf main_arg6
  let main_cst_6 : FVec F S_ .f32 := constant S_ .f32 0x7F800000#32
  let main_v30 : FVec F S256x384 .f32 := broadcastInDim S256x384 ![] bcast_S_S256x384 main_cst_6
  let main_v31 : IVec S256x384 1 := cmpf .olt main_v29 main_v30
  let main_v32 : FVec F S256 .f32 := Host.absf main_arg7
  let main_cst_7 : FVec F S_ .f32 := constant S_ .f32 0x7F800000#32
  let main_v33 : FVec F S256 .f32 := broadcastInDim S256 ![] bcast_S_S256 main_cst_7
  let main_v34 : IVec S256 1 := cmpf .olt main_v32 main_v33
  let main_v35 : FVec F S256 .f32 := Host.absf main_arg8
  let main_cst_8 : FVec F S_ .f32 := constant S_ .f32 0x7F800000#32
  fn_part2 (F := F) main_arg9 main_arg10 main_arg11 main_arg12 main_arg13 main_arg14 main_arg15 main_v16 main_v19 main_v22 main_v25 main_v28 main_v31 main_v34 main_v35 main_cst_8

def fn {F : FTy → Type} [FloatOps F] (main_arg0 : FVec F S8x3x4096 .f32) (main_arg1 : FVec F S8x128x4096 .f32) (main_arg2 : FVec F S8x3x1024 .f32) (main_arg3 : FVec F S8x256x1024 .f32) (main_arg4 : FVec F S8x256 .f32) (main_arg5 : FVec F S8x256 .f32) (main_arg6 : FVec F S256x384 .f32) (main_arg7 : FVec F S256 .f32) (main_arg8 : FVec F S256 .f32) (main_arg9 : FVec F S256 .f32) (main_arg10 : FVec F S1024x256 .f32) (main_arg11 : FVec F S1024 .f32) (main_arg12 : FVec F S1024 .f32) (main_arg13 : FVec F S1024 .f32) (main_arg14 : FVec F S256x1024 .f32) (main_arg15 : FVec F S256 .f32) (main_arg16 : FVec F S256 .f32) (main_arg17 : FVec F S256 .f32) (main_arg18 : FVec F S512x256 .f32) (main_arg19 : FVec F S512 .f32) (main_arg20 : FVec F S512x256 .f32) (main_arg21 : FVec F S512 .f32) : IVec S8x4096x3 1 × IVec S8x3x4096 1 × IVec S8x128x4096 1 × IVec S8x3x1024 1 × IVec S8x256x1024 1 × IVec S256x384 1 × IVec S256 1 × IVec S256 1 × IVec S256 1 × IVec S1024x256 1 × IVec S1024 1 × IVec S1024 1 × IVec S1024 1 × IVec S256x1024 1 × IVec S256 1 :=
  let main_v0 : FVec F S8x4096x1024 .f32 := (fun l r => Host.dotGeneral dot_S8x3x4096_S8x3x1024_S8x4096x1024_1_1_2_2_0_0 none l r) main_arg0 main_arg2
  let main_cst : FVec F S_ .f32 := constant S_ .f32 0xC0000000#32
  let main_v1 : FVec F S8x4096x1024 .f32 := broadcastInDim S8x4096x1024 ![] bcast_S_S8x4096x1024 main_cst
  let main_v2 : FVec F S8x4096x1024 .f32 := mulf main_v1 main_v0
  let main_v3 : FVec F S8x3x4096 .f32 := mulf main_arg0 main_arg0
  let main_cst_0 : FVec F S_ .f32 := constant S_ .f32 0x00000000#32
  let main_v4 : FVec F S8x4096 .f32 := (fun x v => Host.reduceAdd x v reducesTo_S8x3x4096_S8x4096_d1 h_S_) main_v3 main_cst_0
  let main_v5 : FVec F S8x4096x1 .f32 := broadcastInDim S8x4096x1 ![0, 1] bcast_S8x4096_S8x4096x1_0_1 main_v4
  let main_v6 : FVec F S8x4096x1024 .f32 := broadcastInDim S8x4096x1024 ![0, 1, 2] bcast_S8x4096x1_S8x4096x1024_0_1_2 main_v5
  let main_v7 : FVec F S8x4096x1024 .f32 := addf main_v2 main_v6
  let main_v8 : FVec F S8x3x1024 .f32 := mulf main_arg2 main_arg2
  let main_cst_1 : FVec F S_ .f32 := constant S_ .f32 0x00000000#32
  let main_v9 : FVec F S8x1024 .f32 := (fun x v => Host.reduceAdd x v reducesTo_S8x3x1024_S8x1024_d1 h_S_) main_v8 main_cst_1
  let main_v10 : FVec F S8x1x1024 .f32 := broadcastInDim S8x1x1024 ![0, 2] bcast_S8x1024_S8x1x1024_0_2 main_v9
  let main_v11 : FVec F S8x4096x1024 .f32 := broadcastInDim S8x4096x1024 ![0, 1, 2] bcast_S8x1x1024_S8x4096x1024_0_1_2 main_v10
  let main_v12 : FVec F S8x4096x1024 .f32 := addf main_v7 main_v11
  let main_v13 : FVec F S8x4096x1024 .f32 := Host.negf main_v12
  let main_values : FVec F S8x4096x4 .f32 := (fun x => (Host.topK S8x4096x4 2 (FloatOps.cmpfTotal .gt) x sliceFits_S8x4096x1024_S8x4096x4).1) main_v13
  let main_indices : IVec S8x4096x4 32 := (fun x => (Host.topK S8x4096x4 2 (FloatOps.cmpfTotal .gt) x sliceFits_S8x4096x1024_S8x4096x4).2) main_v13
  let main_v14 : FVec F S8x4096x3 .f32 := (extractStridedSlice S8x4096x3 ![0, 0, 0] · slices_S8x4096x4_S8x4096x3_0_0_0) main_values
  let main_v15 : FVec F S8x4096x3 .f32 := (extractStridedSlice S8x4096x3 ![0, 0, 1] · slices_S8x4096x4_S8x4096x3_0_0_1) main_values
  let main_v16 : IVec S8x4096x3 1 := cmpf .ogt main_v14 main_v15
  let main_v17 : FVec F S8x3x4096 .f32 := Host.absf main_arg0
  let main_cst_2 : FVec F S_ .f32 := constant S_ .f32 0x7F800000#32
  fn_part1 (F := F) main_arg1 main_arg2 main_arg3 main_arg6 main_arg7 main_arg8 main_arg9 main_arg10 main_arg11 main_arg12 main_arg13 main_arg14 main_arg15 main_v16 main_v17 main_cst_2
-- ==== Kernel.lean ====
abbrev S8x3x4096 : Shape := ⟨3, ![8, 3, 4096]⟩
abbrev S8x128x4096 : Shape := ⟨3, ![8, 128, 4096]⟩
abbrev S8x3x1024 : Shape := ⟨3, ![8, 3, 1024]⟩
abbrev S8x256x1024 : Shape := ⟨3, ![8, 256, 1024]⟩
abbrev S8x256 : Shape := ⟨2, ![8, 256]⟩
abbrev S256x384 : Shape := ⟨2, ![256, 384]⟩
abbrev S256 : Shape := ⟨1, ![256]⟩
abbrev S1024x256 : Shape := ⟨2, ![1024, 256]⟩
abbrev S1024 : Shape := ⟨1, ![1024]⟩
abbrev S256x1024 : Shape := ⟨2, ![256, 1024]⟩
abbrev S512x256 : Shape := ⟨2, ![512, 256]⟩
abbrev S512 : Shape := ⟨1, ![512]⟩
abbrev S256x128 : Shape := ⟨2, ![256, 128]⟩
abbrev S256x256 : Shape := ⟨2, ![256, 256]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S256x512 : Shape := ⟨2, ![256, 512]⟩
abbrev S8x512 : Shape := ⟨2, ![8, 512]⟩
abbrev S1x512 : Shape := ⟨2, ![1, 512]⟩
abbrev S8x256x1 : Shape := ⟨3, ![8, 256, 1]⟩
abbrev S256x1 : Shape := ⟨2, ![256, 1]⟩
abbrev S8x256x4096 : Shape := ⟨3, ![8, 256, 4096]⟩
abbrev S8x16x8x1 : Shape := ⟨4, ![8, 16, 8, 1]⟩
abbrev S1x3x256 : Shape := ⟨3, ![1, 3, 256]⟩
abbrev S1x3x1024 : Shape := ⟨3, ![1, 3, 1024]⟩
abbrev S1x256x1 : Shape := ⟨3, ![1, 256, 1]⟩
abbrev S1x1x1024 : Shape := ⟨3, ![1, 1, 1024]⟩
abbrev S1x128x256 : Shape := ⟨3, ![1, 128, 256]⟩
abbrev S1x256x1024 : Shape := ⟨3, ![1, 256, 1024]⟩
abbrev S1x256x256 : Shape := ⟨3, ![1, 256, 256]⟩
abbrev S1x1x8x1 : Shape := ⟨4, ![1, 1, 8, 1]⟩
abbrev S3x256 : Shape := ⟨2, ![3, 256]⟩
abbrev S3x1024 : Shape := ⟨2, ![3, 1024]⟩
abbrev S128x256 : Shape := ⟨2, ![128, 256]⟩
abbrev S1x1024 : Shape := ⟨2, ![1, 1024]⟩
abbrev S8x32x1 : Shape := ⟨3, ![8, 32, 1]⟩
abbrev S8x1 : Shape := ⟨2, ![8, 1]⟩
abbrev S8x8x1 : Shape := ⟨3, ![8, 8, 1]⟩
abbrev S8x8 : Shape := ⟨2, ![8, 8]⟩
abbrev S8x8x32 : Shape := ⟨3, ![8, 8, 32]⟩
abbrev S1024x1 : Shape := ⟨2, ![1024, 1]⟩
abbrev S8x1024x4096 : Shape := ⟨3, ![8, 1024, 4096]⟩
abbrev S1x1024x256 : Shape := ⟨3, ![1, 1024, 256]⟩
abbrev S8x128x1 : Shape := ⟨3, ![8, 128, 1]⟩
abbrev S8x8x128 : Shape := ⟨3, ![8, 8, 128]⟩
abbrev S8x1024x1 : Shape := ⟨3, ![8, 1024, 1]⟩
abbrev S1x1024x1 : Shape := ⟨3, ![1, 1024, 1]⟩

abbrev nBuf : Space → Nat
  | .hbm => 142
  | .vmem => 71
  | .smem => 0
  | _ => 0

abbrev hbmTy0_0 (i : Nat) : BufTy := match i % 128 with
  | 0 => ⟨S8x3x4096, .f32⟩
  | 1 => ⟨S8x128x4096, .f32⟩
  | 2 => ⟨S8x3x1024, .f32⟩
  | 3 => ⟨S8x256x1024, .f32⟩
  | 4 => ⟨S8x256, .f32⟩
  | 5 => ⟨S8x256, .f32⟩
  | 6 => ⟨S256x384, .f32⟩
  | 7 => ⟨S256, .f32⟩
  | 8 => ⟨S256, .f32⟩
  | 9 => ⟨S256, .f32⟩
  | 10 => ⟨S1024x256, .f32⟩
  | 11 => ⟨S1024, .f32⟩
  | 12 => ⟨S1024, .f32⟩
  | 13 => ⟨S1024, .f32⟩
  | 14 => ⟨S256x1024, .f32⟩
  | 15 => ⟨S256, .f32⟩
  | 16 => ⟨S256, .f32⟩
  | 17 => ⟨S256, .f32⟩
  | 18 => ⟨S512x256, .f32⟩
  | 19 => ⟨S512, .f32⟩
  | 20 => ⟨S512x256, .f32⟩
  | 21 => ⟨S512, .f32⟩
  | 22 => ⟨S256x128, .f32⟩
  | 23 => ⟨S256x256, .f32⟩
  | 24 => ⟨S8x3x4096, .f32⟩
  | 25 => ⟨S_, .f32⟩
  | 26 => ⟨S8x4096, .f32⟩
  | 27 => ⟨S8x4096x1, .f32⟩
  | 28 => ⟨S8x3x1024, .f32⟩
  | 29 => ⟨S_, .f32⟩
  | 30 => ⟨S8x1024, .f32⟩
  | 31 => ⟨S8x1x1024, .f32⟩
  | 32 => ⟨S256x512, .f32⟩
  | 33 => ⟨S8x512, .f32⟩
  | 34 => ⟨S1x512, .f32⟩
  | 35 => ⟨S8x512, .f32⟩
  | 36 => ⟨S8x512, .f32⟩
  | 37 => ⟨S256x512, .f32⟩
  | 38 => ⟨S8x512, .f32⟩
  | 39 => ⟨S1x512, .f32⟩
  | 40 => ⟨S8x512, .f32⟩
  | 41 => ⟨S8x512, .f32⟩
  | 42 => ⟨S8x256, .f32⟩
  | 43 => ⟨S8x256, .f32⟩
  | 44 => ⟨S8x256, .f32⟩
  | 45 => ⟨S8x256x1, .f32⟩
  | 46 => ⟨S8x256, .f32⟩
  | 47 => ⟨S8x256, .f32⟩
  | 48 => ⟨S8x256, .f32⟩
  | 49 => ⟨S8x256x1, .f32⟩
  | 50 => ⟨S256x1, .f32⟩
  | 51 => ⟨S8x256x4096, .f32⟩
  | 52 => ⟨S8x16x8x1, .f32⟩
  | 53 => ⟨S8x16x8x1, .f32⟩
  | 54 => ⟨S_, .f32⟩
  | 55 => ⟨S8x8x1, .f32⟩
  | 56 => ⟨S8x8, .f32⟩
  | 57 => ⟨S_, .f32⟩
  | 58 => ⟨S8x8x1, .f32⟩
  | 59 => ⟨S8x8, .f32⟩
  | 60 => ⟨S_, .f32⟩
  | 61 => ⟨S8x8, .f32⟩
  | 62 => ⟨S8x8, .f32⟩
  | 63 => ⟨S_, .f32⟩
  | 64 => ⟨S8x8, .f32⟩
  | 65 => ⟨S8x8, .f32⟩
  | 66 => ⟨S8x8, .f32⟩
  | 67 => ⟨S8x8, .f32⟩
  | 68 => ⟨S_, .f32⟩
  | 69 => ⟨S8x8, .f32⟩
  | 70 => ⟨S8x8, .f32⟩
  | 71 => ⟨S8x8, .f32⟩
  | 72 => ⟨S8x8x32, .f32⟩
  | 73 => ⟨S8x256, .f32⟩
  | 74 => ⟨S8x256x1, .f32⟩
  | 75 => ⟨S8x8x32, .f32⟩
  | 76 => ⟨S8x256, .f32⟩
  | 77 => ⟨S8x256x1, .f32⟩
  | 78 => ⟨S256x1, .f32⟩
  | 79 => ⟨S256x1, .f32⟩
  | 80 => ⟨S1024x1, .f32⟩
  | 81 => ⟨S8x256x4096, .f32⟩
  | 82 => ⟨S8x1024x4096, .f32⟩
  | 83 => ⟨S8x16x8x1, .f32⟩
  | 84 => ⟨S8x16x8x1, .f32⟩
  | 85 => ⟨S_, .f32⟩
  | 86 => ⟨S8x8x1, .f32⟩
  | 87 => ⟨S8x8, .f32⟩
  | 88 => ⟨S_, .f32⟩
  | 89 => ⟨S8x8x1, .f32⟩
  | 90 => ⟨S8x8, .f32⟩
  | 91 => ⟨S_, .f32⟩
  | 92 => ⟨S8x8, .f32⟩
  | 93 => ⟨S8x8, .f32⟩
  | 94 => ⟨S_, .f32⟩
  | 95 => ⟨S8x8, .f32⟩
  | 96 => ⟨S8x8, .f32⟩
  | 97 => ⟨S8x8, .f32⟩
  | 98 => ⟨S8x8, .f32⟩
  | 99 => ⟨S_, .f32⟩
  | 100 => ⟨S8x8, .f32⟩
  | 101 => ⟨S8x8, .f32⟩
  | 102 => ⟨S8x8, .f32⟩
  | 103 => ⟨S8x8x128, .f32⟩
  | 104 => ⟨S8x1024, .f32⟩
  | 105 => ⟨S8x1024x1, .f32⟩
  | 106 => ⟨S8x8x128, .f32⟩
  | 107 => ⟨S8x1024, .f32⟩
  | 108 => ⟨S8x1024x1, .f32⟩
  | 109 => ⟨S1024x1, .f32⟩
  | 110 => ⟨S1024x1, .f32⟩
  | 111 => ⟨S256x1, .f32⟩
  | 112 => ⟨S8x256x4096, .f32⟩
  | 113 => ⟨S8x16x8x1, .f32⟩
  | 114 => ⟨S8x16x8x1, .f32⟩
  | 115 => ⟨S_, .f32⟩
  | 116 => ⟨S8x8x1, .f32⟩
  | 117 => ⟨S8x8, .f32⟩
  | 118 => ⟨S_, .f32⟩
  | 119 => ⟨S8x8x1, .f32⟩
  | 120 => ⟨S8x8, .f32⟩
  | 121 => ⟨S_, .f32⟩
  | 122 => ⟨S8x8, .f32⟩
  | 123 => ⟨S8x8, .f32⟩
  | 124 => ⟨S_, .f32⟩
  | 125 => ⟨S8x8, .f32⟩
  | 126 => ⟨S8x8, .f32⟩
  | 127 => ⟨S8x8, .f32⟩
  | _ => ⟨S8x3x4096, .f32⟩

abbrev hbmTy0_1 (i : Nat) : BufTy := match i % 128 with
  | 0 => ⟨S8x8, .f32⟩
  | 1 => ⟨S_, .f32⟩
  | 2 => ⟨S8x8, .f32⟩
  | 3 => ⟨S8x8, .f32⟩
  | 4 => ⟨S8x8, .f32⟩
  | 5 => ⟨S8x8x32, .f32⟩
  | 6 => ⟨S8x256, .f32⟩
  | 7 => ⟨S8x256x1, .f32⟩
  | 8 => ⟨S8x8x32, .f32⟩
  | 9 => ⟨S8x256, .f32⟩
  | 10 => ⟨S8x256x1, .f32⟩
  | 11 => ⟨S256x1, .f32⟩
  | 12 => ⟨S256x1, .f32⟩
  | 13 => ⟨S8x256x4096, .f32⟩
  | _ => ⟨S8x3x4096, .f32⟩

abbrev hbmTy (i : Nat) : BufTy := match i / 128 with
  | 0 => hbmTy0_0 i
  | 1 => hbmTy0_1 i
  | _ => ⟨S8x3x4096, .f32⟩

abbrev bufTy : (tb : Table) → Fin (tcTables nBuf tb) → BufTy
  | .hbm, ⟨i, _⟩ => hbmTy i
  | .local _ .vmem, ⟨0, _⟩ => ⟨S1x3x256, .f32⟩
  | .local _ .vmem, ⟨1, _⟩ => ⟨S1x3x256, .f32⟩
  | .local _ .vmem, ⟨2, _⟩ => ⟨S1x3x1024, .f32⟩
  | .local _ .vmem, ⟨3, _⟩ => ⟨S1x3x1024, .f32⟩
  | .local _ .vmem, ⟨4, _⟩ => ⟨S1x256x1, .f32⟩
  | .local _ .vmem, ⟨5, _⟩ => ⟨S1x256x1, .f32⟩
  | .local _ .vmem, ⟨6, _⟩ => ⟨S1x1x1024, .f32⟩
  | .local _ .vmem, ⟨7, _⟩ => ⟨S1x1x1024, .f32⟩
  | .local _ .vmem, ⟨8, _⟩ => ⟨S1x128x256, .f32⟩
  | .local _ .vmem, ⟨9, _⟩ => ⟨S1x128x256, .f32⟩
  | .local _ .vmem, ⟨10, _⟩ => ⟨S1x256x1024, .f32⟩
  | .local _ .vmem, ⟨11, _⟩ => ⟨S1x256x1024, .f32⟩
  | .local _ .vmem, ⟨12, _⟩ => ⟨S256x128, .f32⟩
  | .local _ .vmem, ⟨13, _⟩ => ⟨S256x256, .f32⟩
  | .local _ .vmem, ⟨14, _⟩ => ⟨S256x1, .f32⟩
  | .local _ .vmem, ⟨15, _⟩ => ⟨S1x256x256, .f32⟩
  | .local _ .vmem, ⟨16, _⟩ => ⟨S1x256x256, .f32⟩
  | .local _ .vmem, ⟨17, _⟩ => ⟨S1x1x8x1, .f32⟩
  | .local _ .vmem, ⟨18, _⟩ => ⟨S1x1x8x1, .f32⟩
  | .local _ .vmem, ⟨19, _⟩ => ⟨S1x1x8x1, .f32⟩
  | .local _ .vmem, ⟨20, _⟩ => ⟨S1x1x8x1, .f32⟩
  | .local _ .vmem, ⟨21, _⟩ => ⟨S1x256x256, .f32⟩
  | .local _ .vmem, ⟨22, _⟩ => ⟨S1x256x256, .f32⟩
  | .local _ .vmem, ⟨23, _⟩ => ⟨S1x256x1, .f32⟩
  | .local _ .vmem, ⟨24, _⟩ => ⟨S1x256x1, .f32⟩
  | .local _ .vmem, ⟨25, _⟩ => ⟨S1x256x1, .f32⟩
  | .local _ .vmem, ⟨26, _⟩ => ⟨S1x256x1, .f32⟩
  | .local _ .vmem, ⟨27, _⟩ => ⟨S256x1, .f32⟩
  | .local _ .vmem, ⟨28, _⟩ => ⟨S256x1, .f32⟩
  | .local _ .vmem, ⟨29, _⟩ => ⟨S1024x256, .f32⟩
  | .local _ .vmem, ⟨30, _⟩ => ⟨S1024x1, .f32⟩
  | .local _ .vmem, ⟨31, _⟩ => ⟨S1x256x256, .f32⟩
  | .local _ .vmem, ⟨32, _⟩ => ⟨S1x256x256, .f32⟩
  | .local _ .vmem, ⟨33, _⟩ => ⟨S1x1024x256, .f32⟩
  | .local _ .vmem, ⟨34, _⟩ => ⟨S1x1024x256, .f32⟩
  | .local _ .vmem, ⟨35, _⟩ => ⟨S1x1x8x1, .f32⟩
  | .local _ .vmem, ⟨36, _⟩ => ⟨S1x1x8x1, .f32⟩
  | .local _ .vmem, ⟨37, _⟩ => ⟨S1x1x8x1, .f32⟩
  | .local _ .vmem, ⟨38, _⟩ => ⟨S1x1x8x1, .f32⟩
  | .local _ .vmem, ⟨39, _⟩ => ⟨S1x1024x256, .f32⟩
  | .local _ .vmem, ⟨40, _⟩ => ⟨S1x1024x256, .f32⟩
  | .local _ .vmem, ⟨41, _⟩ => ⟨S1x1024x1, .f32⟩
  | .local _ .vmem, ⟨42, _⟩ => ⟨S1x1024x1, .f32⟩
  | .local _ .vmem, ⟨43, _⟩ => ⟨S1x1024x1, .f32⟩
  | .local _ .vmem, ⟨44, _⟩ => ⟨S1x1024x1, .f32⟩
  | .local _ .vmem, ⟨45, _⟩ => ⟨S1024x1, .f32⟩
  | .local _ .vmem, ⟨46, _⟩ => ⟨S1024x1, .f32⟩
  | .local _ .vmem, ⟨47, _⟩ => ⟨S256x1024, .f32⟩
  | .local _ .vmem, ⟨48, _⟩ => ⟨S256x1, .f32⟩
  | .local _ .vmem, ⟨49, _⟩ => ⟨S1x256x256, .f32⟩
  | .local _ .vmem, ⟨50, _⟩ => ⟨S1x256x256, .f32⟩
  | .local _ .vmem, ⟨51, _⟩ => ⟨S1x1x8x1, .f32⟩
  | .local _ .vmem, ⟨52, _⟩ => ⟨S1x1x8x1, .f32⟩
  | .local _ .vmem, ⟨53, _⟩ => ⟨S1x1x8x1, .f32⟩
  | .local _ .vmem, ⟨54, _⟩ => ⟨S1x1x8x1, .f32⟩
  | .local _ .vmem, ⟨55, _⟩ => ⟨S1x256x256, .f32⟩
  | .local _ .vmem, ⟨56, _⟩ => ⟨S1x256x256, .f32⟩
  | .local _ .vmem, ⟨57, _⟩ => ⟨S1x256x1, .f32⟩
  | .local _ .vmem, ⟨58, _⟩ => ⟨S1x256x1, .f32⟩
  | .local _ .vmem, ⟨59, _⟩ => ⟨S1x256x1, .f32⟩
  | .local _ .vmem, ⟨60, _⟩ => ⟨S1x256x1, .f32⟩
  | .local _ .vmem, ⟨61, _⟩ => ⟨S256x1, .f32⟩
  | .local _ .vmem, ⟨62, _⟩ => ⟨S256x1, .f32⟩
  | .local _ .vmem, ⟨63, _⟩ => ⟨S1x256x1, .f32⟩
  | .local _ .vmem, ⟨64, _⟩ => ⟨S1x256x1, .f32⟩
  | .local _ .vmem, ⟨65, _⟩ => ⟨S1x256x1, .f32⟩
  | .local _ .vmem, ⟨66, _⟩ => ⟨S1x256x1, .f32⟩
  | .local _ .vmem, ⟨67, _⟩ => ⟨S1x256x256, .f32⟩
  | .local _ .vmem, ⟨68, _⟩ => ⟨S1x256x256, .f32⟩
  | .local _ .vmem, ⟨69, _⟩ => ⟨S1x256x256, .f32⟩
  | .local _ .vmem, ⟨70, _⟩ => ⟨S1x256x256, .f32⟩
  | _, _ => ⟨S8x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27_0 : Ref sig .tc := ⟨.hbm, 51, rfl⟩
abbrev main_v27_1 : Ref sig .tc := ⟨.hbm, 52, rfl⟩
abbrev main_v27_2 : Ref sig .tc := ⟨.hbm, 53, rfl⟩
abbrev main_cst_1 : Ref sig .tc := ⟨.hbm, 54, rfl⟩
abbrev main_v28 : Ref sig .tc := ⟨.hbm, 55, rfl⟩
abbrev main_v29 : Ref sig .tc := ⟨.hbm, 56, rfl⟩
abbrev main_cst_2 : Ref sig .tc := ⟨.hbm, 57, rfl⟩
abbrev main_v30 : Ref sig .tc := ⟨.hbm, 58, rfl⟩
abbrev main_v31 : Ref sig .tc := ⟨.hbm, 59, rfl⟩
abbrev main_cst_3 : Ref sig .tc := ⟨.hbm, 60, rfl⟩
abbrev main_v32 : Ref sig .tc := ⟨.hbm, 61, rfl⟩
abbrev main_v33 : Ref sig .tc := ⟨.hbm, 62, rfl⟩
abbrev main_cst_4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_5 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50_0 : Ref sig .tc := ⟨.hbm, 81, rfl⟩
abbrev main_v50_1 : Ref sig .tc := ⟨.hbm, 82, rfl⟩
abbrev main_v50_2 : Ref sig .tc := ⟨.hbm, 83, rfl⟩
abbrev main_v50_3 : Ref sig .tc := ⟨.hbm, 84, rfl⟩
abbrev main_cst_6 : Ref sig .tc := ⟨.hbm, 85, rfl⟩
abbrev main_v51 : Ref sig .tc := ⟨.hbm, 86, rfl⟩
abbrev main_v52 : Ref sig .tc := ⟨.hbm, 87, rfl⟩
abbrev main_cst_7 : Ref sig .tc := ⟨.hbm, 88, rfl⟩
abbrev main_v53 : Ref sig .tc := ⟨.hbm, 89, rfl⟩
abbrev main_v54 : Ref sig .tc := ⟨.hbm, 90, rfl⟩
abbrev main_cst_8 : Ref sig .tc := ⟨.hbm, 91, rfl⟩
abbrev main_v55 : Ref sig .tc := ⟨.hbm, 92, rfl⟩
abbrev main_v56 : Ref sig .tc := ⟨.hbm, 93, rfl⟩
abbrev main_cst_9 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_10 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73_0 : Ref sig .tc := ⟨.hbm, 112, rfl⟩
abbrev main_v73_1 : Ref sig .tc := ⟨.hbm, 113, rfl⟩
abbrev main_v73_2 : Ref sig .tc := ⟨.hbm, 114, rfl⟩
abbrev main_cst_11 : Ref sig .tc := ⟨.hbm, 115, rfl⟩
abbrev main_v74 : Ref sig .tc := ⟨.hbm, 116, rfl⟩
abbrev main_v75 : Ref sig .tc := ⟨.hbm, 117, rfl⟩
abbrev main_cst_12 : Ref sig .tc := ⟨.hbm, 118, rfl⟩
abbrev main_v76 : Ref sig .tc := ⟨.hbm, 119, rfl⟩
abbrev main_v77 : Ref sig .tc := ⟨.hbm, 120, rfl⟩
abbrev main_cst_13 : Ref sig .tc := ⟨.hbm, 121, rfl⟩
abbrev main_v78 : Ref sig .tc := ⟨.hbm, 122, rfl⟩
abbrev main_v79 : Ref sig .tc := ⟨.hbm, 123, rfl⟩
abbrev main_cst_14 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_15 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc2_stg0_0 : Ref sig .tc := ⟨.vmem, 39, rfl⟩
abbrev cc2_stg0_1 : Ref sig .tc := ⟨.vmem, 40, rfl⟩
abbrev cc2_stg1_0 : Ref sig .tc := ⟨.vmem, 41, rfl⟩
abbrev cc2_stg1_1 : Ref sig .tc := ⟨.vmem, 42, rfl⟩
abbrev cc2_stg2_0 : Ref sig .tc := ⟨.vmem, 43, rfl⟩
abbrev cc2_stg2_1 : Ref sig .tc := ⟨.vmem, 44, rfl⟩
abbrev cc2_stg3_0 : Ref sig .tc := ⟨.vmem, 45, rfl⟩
abbrev cc2_stg4_0 : Ref sig .tc := ⟨.vmem, 46, rfl⟩
abbrev cc2_stg5_0 : Ref sig .tc := ⟨.vmem, 47, rfl⟩
abbrev cc2_stg6_0 : Ref sig .tc := ⟨.vmem, 48, rfl⟩
abbrev cc2_stg7_0 : Ref sig .tc := ⟨.vmem, 49, rfl⟩
abbrev cc2_stg7_1 : Ref sig .tc := ⟨.vmem, 50, rfl⟩
abbrev cc2_stg8_0 : Ref sig .tc := ⟨.vmem, 51, rfl⟩
abbrev cc2_stg8_1 : Ref sig .tc := ⟨.vmem, 52, rfl⟩
abbrev cc2_stg9_0 : Ref sig .tc := ⟨.vmem, 53, rfl⟩
abbrev cc2_stg9_1 : Ref sig .tc := ⟨.vmem, 54, rfl⟩
abbrev cc3_stg0_0 : Ref sig .tc := ⟨.vmem, 55, rfl⟩
abbrev cc3_stg0_1 : Ref sig .tc := ⟨.vmem, 56, rfl⟩
abbrev cc3_stg1_0 : Ref sig .tc := ⟨.vmem, 57, rfl⟩
abbrev cc3_stg1_1 : Ref sig .tc := ⟨.vmem, 58, rfl⟩
abbrev cc3_stg2_0 : Ref sig .tc := ⟨.vmem, 59, rfl⟩
abbrev cc3_stg2_1 : Ref sig .tc := ⟨.vmem, 60, rfl⟩
abbrev cc3_stg3_0 : Ref sig .tc := ⟨.vmem, 61, rfl⟩
abbrev cc3_stg4_0 : Ref sig .tc := ⟨.vmem, 62, rfl⟩
abbrev cc3_stg5_0 : Ref sig .tc := ⟨.vmem, 63, rfl⟩
abbrev cc3_stg5_1 : Ref sig .tc := ⟨.vmem, 64, rfl⟩
abbrev cc3_stg6_0 : Ref sig .tc := ⟨.vmem, 65, rfl⟩
abbrev cc3_stg6_1 : Ref sig .tc := ⟨.vmem, 66, rfl⟩
abbrev cc3_stg7_0 : Ref sig .tc := ⟨.vmem, 67, rfl⟩
abbrev cc3_stg7_1 : Ref sig .tc := ⟨.vmem, 68, rfl⟩
abbrev cc3_stg8_0 : Ref sig .tc := ⟨.vmem, 69, rfl⟩
abbrev cc3_stg8_1 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem7_1 : DmaSem sig := 32
abbrev cc1_sem8_0 : DmaSem sig := 33
abbrev cc1_sem8_1 : DmaSem sig := 34
abbrev cc1_sem9_0 : DmaSem sig := 35
abbrev cc1_sem9_1 : DmaSem sig := 36
abbrev cc1_sem10_0 : DmaSem sig := 37
abbrev cc1_sem10_1 : DmaSem sig := 38
abbrev cc2_sem0_0 : DmaSem sig := 39
abbrev cc2_sem0_1 : DmaSem sig := 40
abbrev cc2_sem1_0 : DmaSem sig := 41
abbrev cc2_sem1_1 : DmaSem sig := 42
abbrev cc2_sem2_0 : DmaSem sig := 43
abbrev cc2_sem2_1 : DmaSem sig := 44
abbrev cc2_sem3_0 : DmaSem sig := 45
abbrev cc2_sem4_0 : DmaSem sig := 46
abbrev cc2_sem5_0 : DmaSem sig := 47
abbrev cc2_sem6_0 : DmaSem sig := 48
abbrev cc2_sem7_0 : DmaSem sig := 49
abbrev cc2_sem7_1 : DmaSem sig := 50
abbrev cc2_sem8_0 : DmaSem sig := 51
abbrev cc2_sem8_1 : DmaSem sig := 52
abbrev cc2_sem9_0 : DmaSem sig := 53
abbrev cc2_sem9_1 : DmaSem sig := 54
abbrev cc3_sem0_0 : DmaSem sig := 55
abbrev cc3_sem0_1 : DmaSem sig := 56
abbrev cc3_sem1_0 : DmaSem sig := 57
abbrev cc3_sem1_1 : DmaSem sig := 58
abbrev cc3_sem2_0 : DmaSem sig := 59
abbrev cc3_sem2_1 : DmaSem sig := 60
abbrev cc3_sem3_0 : DmaSem sig := 61
abbrev cc3_sem4_0 : DmaSem sig := 62
abbrev cc3_sem5_0 : DmaSem sig := 63
abbrev cc3_sem5_1 : DmaSem sig := 64
abbrev cc3_sem6_0 : DmaSem sig := 65
abbrev cc3_sem6_1 : DmaSem sig := 66
abbrev cc3_sem7_0 : DmaSem sig := 67
abbrev cc3_sem7_1 : DmaSem sig := 68
abbrev cc3_sem8_0 : DmaSem sig := 69
abbrev cc3_sem8_1 : DmaSem sig := 70

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1024x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1024x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x8x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x1x8x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨2, ![8, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_8 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_9 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1024x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1024x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S256x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S256x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x256x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x1x8x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x1x8x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨2, ![8, 16], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1x256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x256x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S256x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S256x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x256x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x256x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S1x256x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x256x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]
-- ==== ReferenceIdeal.lean ====
abbrev S8x3x4096 : Shape := ⟨3, ![8, 3, 4096]⟩
abbrev S8x128x4096 : Shape := ⟨3, ![8, 128, 4096]⟩
abbrev S8x3x1024 : Shape := ⟨3, ![8, 3, 1024]⟩
abbrev S8x256x1024 : Shape := ⟨3, ![8, 256, 1024]⟩
abbrev S8x256 : Shape := ⟨2, ![8, 256]⟩
abbrev S256x384 : Shape := ⟨2, ![256, 384]⟩
abbrev S256 : Shape := ⟨1, ![256]⟩
abbrev S1024x256 : Shape := ⟨2, ![1024, 256]⟩
abbrev S1024 : Shape := ⟨1, ![1024]⟩
abbrev S256x1024 : Shape := ⟨2, ![256, 1024]⟩
abbrev S512x256 : Shape := ⟨2, ![512, 256]⟩
abbrev S512 : Shape := ⟨1, ![512]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S8x4096x3 : Shape := ⟨3, ![8, 4096, 3]⟩
abbrev S8x1x12288 : Shape := ⟨3, ![8, 1, 12288]⟩
abbrev S8x256x12288 : Shape := ⟨3, ![8, 256, 12288]⟩
abbrev S8x256x12288x1 : Shape := ⟨4, ![8, 256, 12288, 1]⟩
abbrev S1 : Shape := ⟨1, ![1]⟩
abbrev S1x1x1x1 : Shape := ⟨4, ![1, 1, 1, 1]⟩
abbrev S8x256x4096x3 : Shape := ⟨4, ![8, 256, 4096, 3]⟩
abbrev S8x1x4096x3 : Shape := ⟨4, ![8, 1, 4096, 3]⟩
abbrev S8x256x4096 : Shape := ⟨3, ![8, 256, 4096]⟩
abbrev S8x384x4096 : Shape := ⟨3, ![8, 384, 4096]⟩
abbrev S8x4096x256 : Shape := ⟨3, ![8, 4096, 256]⟩
abbrev S1x256x1 : Shape := ⟨3, ![1, 256, 1]⟩
abbrev S8x8x32x4096 : Shape := ⟨4, ![8, 8, 32, 4096]⟩
abbrev S8x8 : Shape := ⟨2, ![8, 8]⟩
abbrev S8x8x1x1 : Shape := ⟨4, ![8, 8, 1, 1]⟩
abbrev S8x1024x4096 : Shape := ⟨3, ![8, 1024, 4096]⟩
abbrev S1x1024x1 : Shape := ⟨3, ![1, 1024, 1]⟩
abbrev S8x8x128x4096 : Shape := ⟨4, ![8, 8, 128, 4096]⟩
abbrev S256x512 : Shape := ⟨2, ![256, 512]⟩
abbrev S8x512 : Shape := ⟨2, ![8, 512]⟩
abbrev S1x512 : Shape := ⟨2, ![1, 512]⟩
abbrev S8x256x1 : Shape := ⟨3, ![8, 256, 1]⟩

abbrev nBuf : Space → Nat
  | .hbm => 281
  | .vmem => 0
  | .smem => 0
  | _ => 0

abbrev hbmTy0_0 (i : Nat) : BufTy := match i % 128 with
  | 0 => ⟨S8x3x4096, .f32⟩
  | 1 => ⟨S8x128x4096, .f32⟩
  | 2 => ⟨S8x3x1024, .f32⟩
  | 3 => ⟨S8x256x1024, .f32⟩
  | 4 => ⟨S8x256, .f32⟩
  | 5 => ⟨S8x256, .f32⟩
  | 6 => ⟨S256x384, .f32⟩
  | 7 => ⟨S256, .f32⟩
  | 8 => ⟨S256, .f32⟩
  | 9 => ⟨S256, .f32⟩
  | 10 => ⟨S1024x256, .f32⟩
  | 11 => ⟨S1024, .f32⟩
  | 12 => ⟨S1024, .f32⟩
  | 13 => ⟨S1024, .f32⟩
  | 14 => ⟨S256x1024, .f32⟩
  | 15 => ⟨S256, .f32⟩
  | 16 => ⟨S256, .f32⟩
  | 17 => ⟨S256, .f32⟩
  | 18 => ⟨S512x256, .f32⟩
  | 19 => ⟨S512, .f32⟩
  | 20 => ⟨S512x256, .f32⟩
  | 21 => ⟨S512, .f32⟩
  | 22 => ⟨S8x4096x1024, .f32⟩
  | 23 => ⟨S_, .f32⟩
  | 24 => ⟨S8x4096x1024, .f32⟩
  | 25 => ⟨S8x4096x1024, .f32⟩
  | 26 => ⟨S8x3x4096, .f32⟩
  | 27 => ⟨S_, .f32⟩
  | 28 => ⟨S8x4096, .f32⟩
  | 29 => ⟨S8x4096x1, .f32⟩
  | 30 => ⟨S8x4096x1024, .f32⟩
  | 31 => ⟨S8x4096x1024, .f32⟩
  | 32 => ⟨S8x3x1024, .f32⟩
  | 33 => ⟨S_, .f32⟩
  | 34 => ⟨S8x1024, .f32⟩
  | 35 => ⟨S8x1x1024, .f32⟩
  | 36 => ⟨S8x4096x1024, .f32⟩
  | 37 => ⟨S8x4096x1024, .f32⟩
  | 38 => ⟨S8x4096x1024, .f32⟩
  | 39 => ⟨S8x4096x3, .f32⟩
  | 40 => ⟨S8x4096x3, .i32⟩
  | 41 => ⟨S8x4096x3, .f32⟩
  | 42 => ⟨S_, .f32⟩
  | 43 => ⟨S8x4096x3, .f32⟩
  | 44 => ⟨S8x4096x3, .f32⟩
  | 45 => ⟨S_, .f32⟩
  | 46 => ⟨S8x4096x3, .f32⟩
  | 47 => ⟨S8x4096x3, .f32⟩
  | 48 => ⟨S_, .f32⟩
  | 49 => ⟨S8x4096, .f32⟩
  | 50 => ⟨S8x4096x1, .f32⟩
  | 51 => ⟨S8x4096x3, .f32⟩
  | 52 => ⟨S8x4096x3, .f32⟩
  | 53 => ⟨S8x1x12288, .i32⟩
  | 54 => ⟨S8x256x12288, .i32⟩
  | 55 => ⟨S_, .i32⟩
  | 56 => ⟨S8x256x12288, .i32⟩
  | 57 => ⟨S8x256x12288, .i1⟩
  | 58 => ⟨S_, .i32⟩
  | 59 => ⟨S8x256x12288, .i32⟩
  | 60 => ⟨S8x256x12288, .i32⟩
  | 61 => ⟨S8x256x12288, .i32⟩
  | 62 => ⟨S8x256x12288x1, .i32⟩
  | 63 => ⟨S1, .i32⟩
  | 64 => ⟨S_, .i32⟩
  | 65 => ⟨S8x256x12288x1, .i32⟩
  | 66 => ⟨S8x256x12288x1, .i1⟩
  | 67 => ⟨S1x1x1x1, .i32⟩
  | 68 => ⟨S8x256x12288x1, .i32⟩
  | 69 => ⟨S8x256x12288x1, .i1⟩
  | 70 => ⟨S8x256x12288x1, .i1⟩
  | 71 => ⟨S_, .i1⟩
  | 72 => ⟨S8x256x12288, .i1⟩
  | 73 => ⟨S8x256x12288, .f32⟩
  | 74 => ⟨S_, .f32⟩
  | 75 => ⟨S8x256x12288, .f32⟩
  | 76 => ⟨S8x256x12288, .f32⟩
  | 77 => ⟨S8x256x4096x3, .f32⟩
  | 78 => ⟨S8x1x4096x3, .f32⟩
  | 79 => ⟨S8x256x4096x3, .f32⟩
  | 80 => ⟨S8x256x4096x3, .f32⟩
  | 81 => ⟨S_, .f32⟩
  | 82 => ⟨S8x256x4096, .f32⟩
  | 83 => ⟨S8x384x4096, .f32⟩
  | 84 => ⟨S8x4096x256, .f32⟩
  | 85 => ⟨S8x256x4096, .f32⟩
  | 86 => ⟨S1x256x1, .f32⟩
  | 87 => ⟨S8x256x4096, .f32⟩
  | 88 => ⟨S8x256x4096, .f32⟩
  | 89 => ⟨S8x8x32x4096, .f32⟩
  | 90 => ⟨S_, .f32⟩
  | 91 => ⟨S8x8, .f32⟩
  | 92 => ⟨S8x8x1x1, .f32⟩
  | 93 => ⟨S_, .f32⟩
  | 94 => ⟨S8x8x1x1, .f32⟩
  | 95 => ⟨S8x8x1x1, .f32⟩
  | 96 => ⟨S_, .i32⟩
  | 97 => ⟨S_, .f32⟩
  | 98 => ⟨S8x8, .f32⟩
  | 99 => ⟨S8x8x1x1, .f32⟩
  | 100 => ⟨S_, .f32⟩
  | 101 => ⟨S8x8x1x1, .f32⟩
  | 102 => ⟨S8x8x1x1, .f32⟩
  | 103 => ⟨S8x8x32x4096, .f32⟩
  | 104 => ⟨S8x8x32x4096, .f32⟩
  | 105 => ⟨S8x8x32x4096, .f32⟩
  | 106 => ⟨S_, .f32⟩
  | 107 => ⟨S_, .f32⟩
  | 108 => ⟨S_, .f32⟩
  | 109 => ⟨S_, .f32⟩
  | 110 => ⟨S8x8, .f32⟩
  | 111 => ⟨S8x8x1x1, .f32⟩
  | 112 => ⟨S8x8x1x1, .f32⟩
  | 113 => ⟨S8x8x1x1, .f32⟩
  | 114 => ⟨S_, .f32⟩
  | 115 => ⟨S_, .i1⟩
  | 116 => ⟨S_, .f32⟩
  | 117 => ⟨S_, .f32⟩
  | 118 => ⟨S8x8x1x1, .f32⟩
  | 119 => ⟨S8x8x1x1, .f32⟩
  | 120 => ⟨S8x8x32x4096, .f32⟩
  | 121 => ⟨S8x8x32x4096, .f32⟩
  | 122 => ⟨S_, .f32⟩
  | 123 => ⟨S8x8x1x1, .f32⟩
  | 124 => ⟨S8x8x1x1, .f32⟩
  | 125 => ⟨S8x8x1x1, .f32⟩
  | 126 => ⟨S8x8x32x4096, .f32⟩
  | 127 => ⟨S8x8x32x4096, .f32⟩
  | _ => ⟨S8x3x4096, .f32⟩

abbrev hbmTy0_1 (i : Nat) : BufTy := match i % 128 with
  | 0 => ⟨S8x256x4096, .f32⟩
  | 1 => ⟨S1x256x1, .f32⟩
  | 2 => ⟨S8x256x4096, .f32⟩
  | 3 => ⟨S8x256x4096, .f32⟩
  | 4 => ⟨S1x256x1, .f32⟩
  | 5 => ⟨S8x256x4096, .f32⟩
  | 6 => ⟨S8x256x4096, .f32⟩
  | 7 => ⟨S8x256x4096, .f32⟩
  | 8 => ⟨S8x256x4096, .f32⟩
  | 9 => ⟨S_, .f32⟩
  | 10 => ⟨S8x256x4096, .f32⟩
  | 11 => ⟨S8x256x4096, .f32⟩
  | 12 => ⟨S_, .f32⟩
  | 13 => ⟨S8x256x4096, .f32⟩
  | 14 => ⟨S8x256x4096, .f32⟩
  | 15 => ⟨S8x256x4096, .f32⟩
  | 16 => ⟨S8x4096x1024, .f32⟩
  | 17 => ⟨S8x1024x4096, .f32⟩
  | 18 => ⟨S1x1024x1, .f32⟩
  | 19 => ⟨S8x1024x4096, .f32⟩
  | 20 => ⟨S8x1024x4096, .f32⟩
  | 21 => ⟨S8x8x128x4096, .f32⟩
  | 22 => ⟨S_, .f32⟩
  | 23 => ⟨S8x8, .f32⟩
  | 24 => ⟨S8x8x1x1, .f32⟩
  | 25 => ⟨S_, .f32⟩
  | 26 => ⟨S8x8x1x1, .f32⟩
  | 27 => ⟨S8x8x1x1, .f32⟩
  | 28 => ⟨S_, .i32⟩
  | 29 => ⟨S_, .f32⟩
  | 30 => ⟨S8x8, .f32⟩
  | 31 => ⟨S8x8x1x1, .f32⟩
  | 32 => ⟨S_, .f32⟩
  | 33 => ⟨S8x8x1x1, .f32⟩
  | 34 => ⟨S8x8x1x1, .f32⟩
  | 35 => ⟨S8x8x128x4096, .f32⟩
  | 36 => ⟨S8x8x128x4096, .f32⟩
  | 37 => ⟨S8x8x128x4096, .f32⟩
  | 38 => ⟨S_, .f32⟩
  | 39 => ⟨S_, .f32⟩
  | 40 => ⟨S_, .f32⟩
  | 41 => ⟨S_, .f32⟩
  | 42 => ⟨S8x8, .f32⟩
  | 43 => ⟨S8x8x1x1, .f32⟩
  | 44 => ⟨S8x8x1x1, .f32⟩
  | 45 => ⟨S8x8x1x1, .f32⟩
  | 46 => ⟨S_, .f32⟩
  | 47 => ⟨S_, .i1⟩
  | 48 => ⟨S_, .f32⟩
  | 49 => ⟨S_, .f32⟩
  | 50 => ⟨S8x8x1x1, .f32⟩
  | 51 => ⟨S8x8x1x1, .f32⟩
  | 52 => ⟨S8x8x128x4096, .f32⟩
  | 53 => ⟨S8x8x128x4096, .f32⟩
  | 54 => ⟨S_, .f32⟩
  | 55 => ⟨S8x8x1x1, .f32⟩
  | 56 => ⟨S8x8x1x1, .f32⟩
  | 57 => ⟨S8x8x1x1, .f32⟩
  | 58 => ⟨S8x8x128x4096, .f32⟩
  | 59 => ⟨S8x8x128x4096, .f32⟩
  | 60 => ⟨S8x1024x4096, .f32⟩
  | 61 => ⟨S1x1024x1, .f32⟩
  | 62 => ⟨S8x1024x4096, .f32⟩
  | 63 => ⟨S8x1024x4096, .f32⟩
  | 64 => ⟨S1x1024x1, .f32⟩
  | 65 => ⟨S8x1024x4096, .f32⟩
  | 66 => ⟨S8x1024x4096, .f32⟩
  | 67 => ⟨S8x1024x4096, .f32⟩
  | 68 => ⟨S8x1024x4096, .f32⟩
  | 69 => ⟨S_, .f32⟩
  | 70 => ⟨S8x1024x4096, .f32⟩
  | 71 => ⟨S8x1024x4096, .f32⟩
  | 72 => ⟨S_, .f32⟩
  | 73 => ⟨S8x1024x4096, .f32⟩
  | 74 => ⟨S8x1024x4096, .f32⟩
  | 75 => ⟨S8x1024x4096, .f32⟩
  | 76 => ⟨S8x4096x256, .f32⟩
  | 77 => ⟨S8x256x4096, .f32⟩
  | 78 => ⟨S1x256x1, .f32⟩
  | 79 => ⟨S8x256x4096, .f32⟩
  | 80 => ⟨S8x256x4096, .f32⟩
  | 81 => ⟨S8x8x32x4096, .f32⟩
  | 82 => ⟨S_, .f32⟩
  | 83 => ⟨S8x8, .f32⟩
  | 84 => ⟨S8x8x1x1, .f32⟩
  | 85 => ⟨S_, .f32⟩
  | 86 => ⟨S8x8x1x1, .f32⟩
  | 87 => ⟨S8x8x1x1, .f32⟩
  | 88 => ⟨S_, .i32⟩
  | 89 => ⟨S_, .f32⟩
  | 90 => ⟨S8x8, .f32⟩
  | 91 => ⟨S8x8x1x1, .f32⟩
  | 92 => ⟨S_, .f32⟩
  | 93 => ⟨S8x8x1x1, .f32⟩
  | 94 => ⟨S8x8x1x1, .f32⟩
  | 95 => ⟨S8x8x32x4096, .f32⟩
  | 96 => ⟨S8x8x32x4096, .f32⟩
  | 97 => ⟨S8x8x32x4096, .f32⟩
  | 98 => ⟨S_, .f32⟩
  | 99 => ⟨S_, .f32⟩
  | 100 => ⟨S_, .f32⟩
  | 101 => ⟨S_, .f32⟩
  | 102 => ⟨S8x8, .f32⟩
  | 103 => ⟨S8x8x1x1, .f32⟩
  | 104 => ⟨S8x8x1x1, .f32⟩
  | 105 => ⟨S8x8x1x1, .f32⟩
  | 106 => ⟨S_, .f32⟩
  | 107 => ⟨S_, .i1⟩
  | 108 => ⟨S_, .f32⟩
  | 109 => ⟨S_, .f32⟩
  | 110 => ⟨S8x8x1x1, .f32⟩
  | 111 => ⟨S8x8x1x1, .f32⟩
  | 112 => ⟨S8x8x32x4096, .f32⟩
  | 113 => ⟨S8x8x32x4096, .f32⟩
  | 114 => ⟨S_, .f32⟩
  | 115 => ⟨S8x8x1x1, .f32⟩
  | 116 => ⟨S8x8x1x1, .f32⟩
  | 117 => ⟨S8x8x1x1, .f32⟩
  | 118 => ⟨S8x8x32x4096, .f32⟩
  | 119 => ⟨S8x8x32x4096, .f32⟩
  | 120 => ⟨S8x256x4096, .f32⟩
  | 121 => ⟨S1x256x1, .f32⟩
  | 122 => ⟨S8x256x4096, .f32⟩
  | 123 => ⟨S8x256x4096, .f32⟩
  | 124 => ⟨S1x256x1, .f32⟩
  | 125 => ⟨S8x256x4096, .f32⟩
  | 126 => ⟨S8x256x4096, .f32⟩
  | 127 => ⟨S256x512, .f32⟩
  | _ => ⟨S8x3x4096, .f32⟩

abbrev hbmTy0_2 (i : Nat) : BufTy := match i % 128 with
  | 0 => ⟨S8x512, .f32⟩
  | 1 => ⟨S1x512, .f32⟩
  | 2 => ⟨S8x512, .f32⟩
  | 3 => ⟨S8x512, .f32⟩
  | 4 => ⟨S256x512, .f32⟩
  | 5 => ⟨S8x512, .f32⟩
  | 6 => ⟨S1x512, .f32⟩
  | 7 => ⟨S8x512, .f32⟩
  | 8 => ⟨S8x512, .f32⟩
  | 9 => ⟨S8x256, .f32⟩
  | 10 => ⟨S8x256, .f32⟩
  | 11 => ⟨S8x256, .f32⟩
  | 12 => ⟨S8x256, .f32⟩
  | 13 => ⟨S8x256, .f32⟩
  | 14 => ⟨S8x256x1, .f32⟩
  | 15 => ⟨S8x256, .f32⟩
  | 16 => ⟨S8x256x1, .f32⟩
  | 17 => ⟨S_, .f32⟩
  | 18 => ⟨S8x256x1, .f32⟩
  | 19 => ⟨S8x256x1, .f32⟩
  | 20 => ⟨S8x256x4096, .f32⟩
  | 21 => ⟨S8x256x4096, .f32⟩
  | 22 => ⟨S8x256x4096, .f32⟩
  | 23 => ⟨S8x256x4096, .f32⟩
  | 24 => ⟨S8x256x4096, .f32⟩
  | _ => ⟨S8x3x4096, .f32⟩

abbrev hbmTy (i : Nat) : BufTy := match i / 128 with
  | 0 => hbmTy0_0 i
  | 1 => hbmTy0_1 i
  | 2 => hbmTy0_2 i
  | _ => ⟨S8x3x4096, .f32⟩

abbrev bufTy : (tb : Table) → Fin (tcTables nBuf tb) → BufTy
  | .hbm, ⟨i, _⟩ => hbmTy i
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_values : Ref sig .tc := ⟨.hbm, 39, rfl⟩
abbrev main_indices : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_cst_3 : Ref sig .tc := ⟨.hbm, 45, rfl⟩
abbrev main_v17 : Ref sig .tc := ⟨.hbm, 46, rfl⟩
abbrev main_v18 : Ref sig .tc := ⟨.hbm, 47, rfl⟩
abbrev main_cst_4 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_call0_c : Ref sig .tc := ⟨.hbm, 55, rfl⟩
abbrev main_call0_v0 : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_c_1 : Ref sig .tc := ⟨.hbm, 63, rfl⟩
abbrev main_call0_c_2 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_3 : Ref sig .tc := ⟨.hbm, 71, rfl⟩
abbrev main_call0_v12 : Ref sig .tc := ⟨.hbm, 72, rfl⟩
abbrev main_call0_v13 : Ref sig .tc := ⟨.hbm, 73, rfl⟩
abbrev main_call0_cst : Ref sig .tc := ⟨.hbm, 74, rfl⟩
abbrev main_call0_v14 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst_5 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_cst_6 : Ref sig .tc := ⟨.hbm, 90, rfl⟩
abbrev main_v38 : Ref sig .tc := ⟨.hbm, 91, rfl⟩
abbrev main_v39 : Ref sig .tc := ⟨.hbm, 92, rfl⟩
abbrev main_cst_7 : Ref sig .tc := ⟨.hbm, 93, rfl⟩
abbrev main_v40 : Ref sig .tc := ⟨.hbm, 94, rfl⟩
abbrev main_v41 : Ref sig .tc := ⟨.hbm, 95, rfl⟩
abbrev main_c : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_cst_0 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_v7 : Ref sig .tc := ⟨.hbm, 106, rfl⟩
abbrev main_call1_cst_1 : Ref sig .tc := ⟨.hbm, 107, rfl⟩
abbrev main_call1_v8 : Ref sig .tc := ⟨.hbm, 108, rfl⟩
abbrev main_call1_cst_2 : Ref sig .tc := ⟨.hbm, 109, rfl⟩
abbrev main_call1_v9 : Ref sig .tc := ⟨.hbm, 110, rfl⟩
abbrev main_call1_v10 : Ref sig .tc := ⟨.hbm, 111, rfl⟩
abbrev main_call1_v11 : Ref sig .tc := ⟨.hbm, 112, rfl⟩
abbrev main_call1_v12 : Ref sig .tc := ⟨.hbm, 113, rfl⟩
abbrev main_call1_cst_3 : Ref sig .tc := ⟨.hbm, 114, rfl⟩
abbrev main_call1_v13 : Ref sig .tc := ⟨.hbm, 115, rfl⟩
abbrev main_call1_cst_4 : Ref sig .tc := ⟨.hbm, 116, rfl⟩
abbrev main_call1_call0_v0 : Ref sig .tc := ⟨.hbm, 117, rfl⟩
abbrev main_call1_call0_v1 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_cst_8 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_cst_9 : Ref sig .tc := ⟨.hbm, 137, rfl⟩
abbrev main_v59 : Ref sig .tc := ⟨.hbm, 138, rfl⟩
abbrev main_v60 : Ref sig .tc := ⟨.hbm, 139, rfl⟩
abbrev main_cst_10 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_cst_11 : Ref sig .tc := ⟨.hbm, 150, rfl⟩
abbrev main_v70 : Ref sig .tc := ⟨.hbm, 151, rfl⟩
abbrev main_v71 : Ref sig .tc := ⟨.hbm, 152, rfl⟩
abbrev main_cst_12 : Ref sig .tc := ⟨.hbm, 153, rfl⟩
abbrev main_v72 : Ref sig .tc := ⟨.hbm, 154, rfl⟩
abbrev main_v73 : Ref sig .tc := ⟨.hbm, 155, rfl⟩
abbrev main_c_13 : Ref sig .tc := ⟨.hbm, 156, rfl⟩
abbrev main_call2_cst : Ref sig .tc := ⟨.hbm, 157, rfl⟩
abbrev main_call2_v0 : Ref sig .tc := ⟨.hbm, 158, rfl⟩
abbrev main_call2_v1 : Ref sig .tc := ⟨.hbm, 159, rfl⟩
abbrev main_call2_cst_0 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_call2_v5 : Ref sig .tc := ⟨.hbm, 164, rfl⟩
abbrev main_call2_v6 : Ref sig .tc := ⟨.hbm, 165, rfl⟩
abbrev main_call2_v7 : Ref sig .tc := ⟨.hbm, 166, rfl⟩
abbrev main_call2_cst_1 : Ref sig .tc := ⟨.hbm, 167, rfl⟩
abbrev main_call2_v8 : Ref sig .tc := ⟨.hbm, 168, rfl⟩
abbrev main_call2_cst_2 : Ref sig .tc := ⟨.hbm, 169, rfl⟩
abbrev main_call2_v9 : Ref sig .tc := ⟨.hbm, 170, rfl⟩
abbrev main_call2_v10 : Ref sig .tc := ⟨.hbm, 171, rfl⟩
abbrev main_call2_v11 : Ref sig .tc := ⟨.hbm, 172, rfl⟩
abbrev main_call2_v12 : Ref sig .tc := ⟨.hbm, 173, rfl⟩
abbrev main_call2_cst_3 : Ref sig .tc := ⟨.hbm, 174, rfl⟩
abbrev main_call2_v13 : Ref sig .tc := ⟨.hbm, 175, rfl⟩
abbrev main_call2_cst_4 : Ref sig .tc := ⟨.hbm, 176, rfl⟩
abbrev main_call2_call0_v0 : Ref sig .tc := ⟨.hbm, 177, rfl⟩
abbrev main_call2_call0_v1 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_cst_14 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_cst_15 : Ref sig .tc := ⟨.hbm, 197, rfl⟩
abbrev main_v91 : Ref sig .tc := ⟨.hbm, 198, rfl⟩
abbrev main_v92 : Ref sig .tc := ⟨.hbm, 199, rfl⟩
abbrev main_cst_16 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_cst_17 : Ref sig .tc := ⟨.hbm, 210, rfl⟩
abbrev main_v102 : Ref sig .tc := ⟨.hbm, 211, rfl⟩
abbrev main_v103 : Ref sig .tc := ⟨.hbm, 212, rfl⟩
abbrev main_cst_18 : Ref sig .tc := ⟨.hbm, 213, rfl⟩
abbrev main_v104 : Ref sig .tc := ⟨.hbm, 214, rfl⟩
abbrev main_v105 : Ref sig .tc := ⟨.hbm, 215, rfl⟩
abbrev main_c_19 : Ref sig .tc := ⟨.hbm, 216, rfl⟩
abbrev main_call3_cst : Ref sig .tc := ⟨.hbm, 217, rfl⟩
abbrev main_call3_v0 : Ref sig .tc := ⟨.hbm, 218, rfl⟩
abbrev main_call3_v1 : Ref sig .tc := ⟨.hbm, 219, rfl⟩
abbrev main_call3_cst_0 : Ref sig .tc := ⟨.hbm, 220, rfl⟩
abbrev main_call3_v2 : Ref sig .tc := ⟨.hbm, 221, rfl⟩
abbrev main_call3_v3 : Ref sig .tc := ⟨.hbm, 222, rfl⟩
abbrev main_call3_v4 : Ref sig .tc := ⟨.hbm, 223, rfl⟩
abbrev main_call3_v5 : Ref sig .tc := ⟨.hbm, 224, rfl⟩
abbrev main_call3_v6 : Ref sig .tc := ⟨.hbm, 225, rfl⟩
abbrev main_call3_v7 : Ref sig .tc := ⟨.hbm, 226, rfl⟩
abbrev main_call3_cst_1 : Ref sig .tc := ⟨.hbm, 227, rfl⟩
abbrev main_call3_v8 : Ref sig .tc := ⟨.hbm, 228, rfl⟩
abbrev main_call3_cst_2 : Ref sig .tc := ⟨.hbm, 229, rfl⟩
abbrev main_call3_v9 : Ref sig .tc := ⟨.hbm, 230, rfl⟩
abbrev main_call3_v10 : Ref sig .tc := ⟨.hbm, 231, rfl⟩
abbrev main_call3_v11 : Ref sig .tc := ⟨.hbm, 232, rfl⟩
abbrev main_call3_v12 : Ref sig .tc := ⟨.hbm, 233, rfl⟩
abbrev main_call3_cst_3 : Ref sig .tc := ⟨.hbm, 234, rfl⟩
abbrev main_call3_v13 : Ref sig .tc := ⟨.hbm, 235, rfl⟩
abbrev main_call3_cst_4 : Ref sig .tc := ⟨.hbm, 236, rfl⟩
abbrev main_call3_call0_v0 : Ref sig .tc := ⟨.hbm, 237, rfl⟩
abbrev main_call3_call0_v1 : Ref sig .tc := ⟨.hbm, 238, rfl⟩
abbrev main_v106 : Ref sig .tc := ⟨.hbm, 239, rfl⟩
abbrev main_v107 : Ref sig .tc := ⟨.hbm, 240, rfl⟩
abbrev main_v108 : Ref sig .tc := ⟨.hbm, 241, rfl⟩
abbrev main_cst_20 : Ref sig .tc := ⟨.hbm, 242, rfl⟩
abbrev main_v109 : Ref sig .tc := ⟨.hbm, 243, rfl⟩
abbrev main_v110 : Ref sig .tc := ⟨.hbm, 244, rfl⟩
abbrev main_v111 : Ref sig .tc := ⟨.hbm, 245, rfl⟩
abbrev main_v112 : Ref sig .tc := ⟨.hbm, 246, rfl⟩
abbrev main_v113 : Ref sig .tc := ⟨.hbm, 247, rfl⟩
abbrev main_v114 : Ref sig .tc := ⟨.hbm, 248, rfl⟩
abbrev main_v115 : Ref sig .tc := ⟨.hbm, 249, rfl⟩
abbrev main_v116 : Ref sig .tc := ⟨.hbm, 250, rfl⟩
abbrev main_v117 : Ref sig .tc := ⟨.hbm, 251, rfl⟩
abbrev main_v118 : Ref sig .tc := ⟨.hbm, 252, rfl⟩
abbrev main_v119 : Ref sig .tc := ⟨.hbm, 253, rfl⟩
abbrev main_v120 : Ref sig .tc := ⟨.hbm, 254, rfl⟩
abbrev main_v121 : Ref sig .tc := ⟨.hbm, 255, rfl⟩
abbrev main_v122 : Ref sig .tc := ⟨.hbm, 256, rfl⟩
abbrev main_v123 : Ref sig .tc := ⟨.hbm, 257, rfl⟩
abbrev main_v124 : Ref sig .tc := ⟨.hbm, 258, rfl⟩
abbrev main_v125 : Ref sig .tc := ⟨.hbm, 259, rfl⟩
abbrev main_v126 : Ref sig .tc := ⟨.hbm, 260, rfl⟩
abbrev main_v127 : Ref sig .tc := ⟨.hbm, 261, rfl⟩
abbrev main_v128 : Ref sig .tc := ⟨.hbm, 262, rfl⟩
abbrev main_v129 : Ref sig .tc := ⟨.hbm, 263, rfl⟩
abbrev main_v130 : Ref sig .tc := ⟨.hbm, 264, rfl⟩
abbrev main_v131 : Ref sig .tc := ⟨.hbm, 265, rfl⟩
abbrev main_v132 : Ref sig .tc := ⟨.hbm, 266, rfl⟩
abbrev main_v133 : Ref sig .tc := ⟨.hbm, 267, rfl⟩
abbrev main_v134 : Ref sig .tc := ⟨.hbm, 268, rfl⟩
abbrev main_v135 : Ref sig .tc := ⟨.hbm, 269, rfl⟩
abbrev main_v136 : Ref sig .tc := ⟨.hbm, 270, rfl⟩
abbrev main_v137 : Ref sig .tc := ⟨.hbm, 271, rfl⟩
abbrev main_v138 : Ref sig .tc := ⟨.hbm, 272, rfl⟩
abbrev main_cst_21 : Ref sig .tc := ⟨.hbm, 273, rfl⟩
abbrev main_v139 : Ref sig .tc := ⟨.hbm, 274, rfl⟩
abbrev main_v140 : Ref sig .tc := ⟨.hbm, 275, rfl⟩
abbrev main_v141 : Ref sig .tc := ⟨.hbm, 276, rfl⟩
abbrev main_v142 : Ref sig .tc := ⟨.hbm, 277, rfl⟩
abbrev main_v143 : Ref sig .tc := ⟨.hbm, 278, rfl⟩
abbrev main_v144 : Ref sig .tc := ⟨.hbm, 279, rfl⟩
abbrev main_v145 : Ref sig .tc := ⟨.hbm, 280, rfl⟩

abbrev nD : Nat := 1
abbrev τ : Topo := Topo.v7x

variable {F : FTy → Type} [FloatOps F]
-- ==== Proof.Spec.lean ====
/- The quantities the kernel computes, as functions of plain indices over the extended reals: the distance of a
   query to a source point, the third least of a row of distances found by masked minima, the interpolation weights,
   the first feature, the sums a group's statistics are made of, and the activation. Nothing here mentions a program. -/
module

public import Idealize.ShloMosaic.Lib.Pointwise

@[expose] public section

noncomputable section

namespace Cert.Proof.Spec

open Idealize.ShloMosaic

/-- The literal that is added to a distance before it is inverted. -/
abbrev litDist : EReal := Ideal.ofBits FTy.f32 0x322BCC77#32
/-- The literal that is added to a variance. -/
abbrev litVar : EReal := Ideal.ofBits FTy.f32 0x3727C5AC#32
/-- The literal `-2`. -/
abbrev litNegTwo : EReal := Ideal.ofBits FTy.f32 0xC0000000#32
/-- The literal the masked minima start from and mask with. -/
abbrev litInf : EReal := Ideal.ofBits FTy.f32 0x7F800000#32

/-- `-2 a·b + aa + bb`, in that order of additions. -/
def dist (a b : Fin 3 → EReal) (aa bb : EReal) : EReal := litNegTwo * ∑ i, a i * b i + aa + bb

/-- The least entry of a row, no more than the mask literal. -/
def least (d : Fin 1024 → EReal) : EReal := Finset.univ.fold min litInf d

/-- A row with its least entries masked. -/
def mask (d : Fin 1024 → EReal) : Fin 1024 → EReal := fun s => if least d < d s then d s else litInf

/-- The third least value of a row, by masking twice. -/
def third (d : Fin 1024 → EReal) : EReal := least (mask (mask d))

/-- The inverse distance at the entries that are not above the third least, zero elsewhere. -/
def inv (d : Fin 1024 → EReal) (s : Fin 1024) : EReal := if d s ≤ third d then Ideal.div 1 (d s + litDist) else 0

/-- The interpolation weight of source point `s`. -/
def weight (d : Fin 1024 → EReal) (s : Fin 1024) : EReal := Ideal.div (inv d s) (∑ s', inv d s')

/-- One entry of the first layer: the skip features and the interpolated features, mixed, plus the bias. -/
def feat (d : Fin 1024 → EReal) (p1 w1 : Fin 128 → EReal) (p2 : Fin 256 → Fin 1024 → EReal) (w2 : Fin 256 → EReal) (b : EReal) : EReal :=
  ∑ k, w1 k * p1 k + ∑ c, w2 c * (∑ s, p2 c s * weight d s) + b

/-- An entry normalised by a given mean and inverse deviation, scaled and shifted. -/
def norm (x m r g b : EReal) : EReal := (x - m) * r * g + b

/-- `x · σ(x)`. -/
def act (x : EReal) : EReal := x * Ideal.logistic x

/-- A row of weights applied to a column, plus a bias. -/
def linear {K : Nat} (w x : Fin K → EReal) (b : EReal) : EReal := (∑ k, w k * x k) + b

/-- The squared length of a vector of three. -/
def lenSq (a : Fin 3 → EReal) : EReal := ∑ i, a i * a i

/-- A mean from the sums of 16 tiles. -/
def mean (s : Fin 16 → EReal) (cnt : EReal) : EReal := Ideal.div (∑ t, s t) cnt

/-- An inverse deviation from the sums `s` and the sums of squares `q` of 16 tiles. -/
def invDev (s q : Fin 16 → EReal) (cnt : EReal) : EReal :=
  Ideal.rsqrt (Ideal.div (∑ t, q t) cnt - mean s cnt * mean s cnt + litVar)

/-- The number of entries of a group of 32 channels, as a literal. -/
abbrev count32 : EReal := Ideal.ofBits FTy.f32 0x48000000#32
/-- The number of entries of a group of 128 channels, as a literal. -/
abbrev count128 : EReal := Ideal.ofBits FTy.f32 0x49000000#32
/-- The group of a channel, of 8 groups of 32. -/
def group32 (o : Fin 256) : Fin 8 := ⟨o.val / 32, by omega⟩
/-- The group of a channel, of 8 groups of 128. -/
def group128 (e : Fin 1024) : Fin 8 := ⟨e.val / 128, by omega⟩
/-- Channel `k` of group `g`, of 8 groups of 32. -/
def chan32 (g : Fin 8) (k : Fin 32) : Fin 256 := ⟨g.val * 32 + k.val, by omega⟩
/-- Channel `k` of group `g`, of 8 groups of 128. -/
def chan128 (g : Fin 8) (k : Fin 128) : Fin 1024 := ⟨g.val * 128 + k.val, by omega⟩
/-- Query `n` of tile `t`, of 16 tiles of 256. -/
def query (t : Fin 16) (n : Fin 256) : Fin 4096 := ⟨t.val * 256 + n.val, by omega⟩

end Cert.Proof.Spec

end
-- ==== Proof.Blocks.lean ====
/- What one grid point of each of the four kernels computes, entry by entry, as a function of the blocks it reads. -/
module

public import proofs.«01_k».proof.Proof.Gen.KernelIdeal.Skeleton
public import proofs.«01_k».proof.Proof.Spec

@[expose] public section

set_option maxRecDepth 16384

noncomputable section

namespace Cert.Proof.Blocks

open Idealize.ShloMosaic Cert.KernelIdeal Cert.KernelIdeal.Gen Cert.KernelIdeal.Facts

variable [Cert.KernelIdeal.Facts]

/-- The distances of a block of queries: entry `(n, s)`. -/
theorem dist_apply (x0 : Vec Ideal S1x3x256 .f32) (x1 : Vec Ideal S1x3x1024 .f32) (x2 : Vec Ideal S1x256x1 .f32)
    (x3 : Vec Ideal S1x1x1024 .f32) (n : Fin 256) (s : Fin 1024) :
    k0_pay5 x0 x1 x2 x3 (ix2 n s)
      = Spec.dist (fun i => x0 (ix3 0 i n)) (fun i => x1 (ix3 0 i s)) (x2 (ix3 0 n 0)) (x3 (ix3 0 0 s)) := by
  pointwise [k0_pay5, Spec.dist]

/-- The third least distance of each query of the block. -/
theorem third_apply (x0 : Vec Ideal S1x3x256 .f32) (x1 : Vec Ideal S1x3x1024 .f32) (x2 : Vec Ideal S1x256x1 .f32)
    (x3 : Vec Ideal S1x1x1024 .f32) (n : Fin 256) :
    k0_pay6 x0 x1 x2 x3 (ix2 n 0) = Spec.third (fun s => k0_pay5 x0 x1 x2 x3 (ix2 n s)) := by
  pointwise [k0_pay6]
  rfl

/-- The first layer on a block: entry `(o, n)`. -/
theorem feat_apply (x0 : Vec Ideal S1x3x256 .f32) (x1 : Vec Ideal S1x3x1024 .f32) (x2 : Vec Ideal S1x256x1 .f32)
    (x3 : Vec Ideal S1x1x1024 .f32) (x4 : Vec Ideal S1x128x256 .f32) (x5 : Vec Ideal S1x256x1024 .f32)
    (x6 : Vec Ideal S256x128 .f32) (x7 : Vec Ideal S256x256 .f32) (x8 : Vec Ideal S256x1 .f32) (o n : Fin 256) :
    k0_pay7 (k0_pay3 x4) (k0_pay4 x5) (k0_pay5 x0 x1 x2 x3) (k0_pay6 x0 x1 x2 x3) x6 x7 x8 (ix2 o n)
      = Spec.feat (fun s => Spec.dist (fun i => x0 (ix3 0 i n)) (fun i => x1 (ix3 0 i s)) (x2 (ix3 0 n 0)) (x3 (ix3 0 0 s)))
          (fun k => x4 (ix3 0 k n)) (fun k => x6 (ix2 o k)) (fun c s => x5 (ix3 0 c s)) (fun c => x7 (ix2 o c)) (x8 (ix2 o 0)) := by
  pointwise [k0_pay7, k0_pay3, k0_pay4]
  simp only [third_apply, dist_apply]
  rfl

/-- The activated first layer on a block: entry `(o, n)`. -/
theorem act_apply (x0 : Vec Ideal S1x256x256 .f32) (x1 x2 : Vec Ideal S1x256x1 .f32) (x3 x4 : Vec Ideal S256x1 .f32) (o n : Fin 256) :
    k1_pay3 x0 x1 x2 x3 x4 (ix2 o n)
      = Spec.act (Spec.norm (x0 (ix3 0 o n)) (x1 (ix3 0 o 0)) (x2 (ix3 0 o 0)) (x3 (ix2 o 0)) (x4 (ix2 o 0))) := by
  pointwise [k1_pay3]
  rfl

/-- The second layer on a block: entry `(e, n)`. -/
theorem conv_apply (x0 : Vec Ideal S1x256x256 .f32) (x1 x2 : Vec Ideal S1x256x1 .f32) (x3 x4 : Vec Ideal S256x1 .f32)
    (x5 : Vec Ideal S1024x256 .f32) (x6 : Vec Ideal S1024x1 .f32) (e : Fin 1024) (n : Fin 256) :
    k1_pay5 x0 x1 x2 x3 x4 x5 x6 (ix2 e n)
      = (∑ o, x5 (ix2 e o) * Spec.act (Spec.norm (x0 (ix3 0 o n)) (x1 (ix3 0 o 0)) (x2 (ix3 0 o 0)) (x3 (ix2 o 0)) (x4 (ix2 o 0))))
          + x6 (ix2 e 0) := by
  pointwise [k1_pay5]
  simp only [act_apply]

/-- The third layer on a block: entry `(o, n)`. -/
theorem back_apply (x0 : Vec Ideal S1x1024x256 .f32) (x1 x2 : Vec Ideal S1x1024x1 .f32) (x3 x4 : Vec Ideal S1024x1 .f32)
    (x5 : Vec Ideal S256x1024 .f32) (x6 : Vec Ideal S256x1 .f32) (o n : Fin 256) :
    k2_pay3 x0 x1 x2 x3 x4 x5 x6 (ix2 o n)
      = (∑ e, x5 (ix2 o e) * Spec.act (Spec.norm (x0 (ix3 0 e n)) (x1 (ix3 0 e 0)) (x2 (ix3 0 e 0)) (x3 (ix2 e 0)) (x4 (ix2 e 0))))
          + x6 (ix2 o 0) := by
  pointwise [k2_pay3, Spec.act, Spec.norm]

/-- The last stage on a block: entry `(o, n)`. -/
theorem last_apply (x0 : Vec Ideal S1x256x256 .f32) (x1 x2 : Vec Ideal S1x256x1 .f32) (x3 x4 : Vec Ideal S256x1 .f32)
    (x5 x6 : Vec Ideal S1x256x1 .f32) (x7 : Vec Ideal S1x256x256 .f32) (o n : Fin 256) :
    k3_pay1 (k3_pay2 x0 x1 x2 x3 x4 x5 x6 x7) (ix3 0 o n)
      = Spec.norm (x0 (ix3 0 o n)) (x1 (ix3 0 o 0)) (x2 (ix3 0 o 0)) (x3 (ix2 o 0)) (x4 (ix2 o 0)) * (1 + x5 (ix3 0 o 0))
          + x6 (ix3 0 o 0) + x7 (ix3 0 o n) := by
  pointwise [k3_pay1, k3_pay2, Spec.norm]

/-- The sum of a `256`-row block over the rows of group `g`, as the first kernel takes it. -/
theorem sum0_apply (a : FVec Ideal S128x256 .f32) (b : FVec Ideal S256x1024 .f32) (d : FVec Ideal S256x1024 .f32) (e : FVec Ideal S256x1 .f32)
    (x6 : Vec Ideal S256x128 .f32) (x7 : Vec Ideal S256x256 .f32) (x8 : Vec Ideal S256x1 .f32) (g : Fin 8) :
    k0_pay1 (k0_pay9 a b d e x6 x7 x8) (ix4 0 0 g 0) = ∑ k : Fin 32, ∑ n : Fin 256, k0_pay7 a b d e x6 x7 x8 (ix2 (Spec.chan32 g k) n) := by
  pointwise [k0_pay1, k0_pay9]
  rfl

/-- The sum of its squares. -/
theorem sq0_apply (a : FVec Ideal S128x256 .f32) (b : FVec Ideal S256x1024 .f32) (d : FVec Ideal S256x1024 .f32) (e : FVec Ideal S256x1 .f32)
    (x6 : Vec Ideal S256x128 .f32) (x7 : Vec Ideal S256x256 .f32) (x8 : Vec Ideal S256x1 .f32) (g : Fin 8) :
    k0_pay2 (k0_pay10 a b d e x6 x7 x8) (ix4 0 0 g 0)
      = ∑ k : Fin 32, ∑ n : Fin 256, k0_pay7 a b d e x6 x7 x8 (ix2 (Spec.chan32 g k) n) * k0_pay7 a b d e x6 x7 x8 (ix2 (Spec.chan32 g k) n) := by
  pointwise [k0_pay2, k0_pay10]
  rfl

/-- The sum of a `1024`-row block over the rows of group `g`, as the second kernel takes it. -/
theorem sum1_apply (x : FVec Ideal S1024x256 .f32) (g : Fin 8) :
    k1_pay1 x (ix4 0 0 g 0) = ∑ k : Fin 128, ∑ n : Fin 256, x (ix2 (Spec.chan128 g k) n) := by
  pointwise [k1_pay1]
  rfl

/-- The sum of its squares. -/
theorem sq1_apply (x : FVec Ideal S1024x256 .f32) (g : Fin 8) :
    k1_pay2 x (ix4 0 0 g 0) = ∑ k : Fin 128, ∑ n : Fin 256, x (ix2 (Spec.chan128 g k) n) * x (ix2 (Spec.chan128 g k) n) := by
  pointwise [k1_pay2]
  rfl

/-- The sum of a `256`-row block over the rows of group `g`, as the third kernel takes it. -/
theorem sum2_apply (x0 : Vec Ideal S1x1024x256 .f32) (x1 x2 : Vec Ideal S1x1024x1 .f32) (x3 x4 : Vec Ideal S1024x1 .f32)
    (x5 : Vec Ideal S256x1024 .f32) (x6 : Vec Ideal S256x1 .f32) (g : Fin 8) :
    k2_pay1 (k2_pay5 x0 x1 x2 x3 x4 x5 x6) (ix4 0 0 g 0)
      = ∑ k : Fin 32, ∑ n : Fin 256, k2_pay3 x0 x1 x2 x3 x4 x5 x6 (ix2 (Spec.chan32 g k) n) := by
  pointwise [k2_pay1, k2_pay5]
  rfl

/-- The sum of its squares. -/
theorem sq2_apply (x0 : Vec Ideal S1x1024x256 .f32) (x1 x2 : Vec Ideal S1x1024x1 .f32) (x3 x4 : Vec Ideal S1024x1 .f32)
    (x5 : Vec Ideal S256x1024 .f32) (x6 : Vec Ideal S256x1 .f32) (g : Fin 8) :
    k2_pay2 (k2_pay6 x0 x1 x2 x3 x4 x5 x6) (ix4 0 0 g 0)
      = ∑ k : Fin 32, ∑ n : Fin 256,
          k2_pay3 x0 x1 x2 x3 x4 x5 x6 (ix2 (Spec.chan32 g k) n) * k2_pay3 x0 x1 x2 x3 x4 x5 x6 (ix2 (Spec.chan32 g k) n) := by
  pointwise [k2_pay2, k2_pay6]
  rfl

/-- The three layers' blocks as they are stored, and the activated first layer's. -/
theorem store0_apply (a : FVec Ideal S128x256 .f32) (b : FVec Ideal S256x1024 .f32) (d : FVec Ideal S256x1024 .f32) (e : FVec Ideal S256x1 .f32)
    (x6 : Vec Ideal S256x128 .f32) (x7 : Vec Ideal S256x256 .f32) (x8 : Vec Ideal S256x1 .f32) (o n : Fin 256) :
    k0_pay8 a b d e x6 x7 x8 (ix3 0 o n) = k0_pay7 a b d e x6 x7 x8 (ix2 o n) := by
  pointwise [k0_pay8]

/-- See `store0_apply`. -/
theorem storeAct_apply (x0 : Vec Ideal S1x256x256 .f32) (x1 x2 : Vec Ideal S1x256x1 .f32) (x3 x4 : Vec Ideal S256x1 .f32) (o n : Fin 256) :
    k1_pay4 x0 x1 x2 x3 x4 (ix3 0 o n) = k1_pay3 x0 x1 x2 x3 x4 (ix2 o n) := by
  pointwise [k1_pay4]

/-- See `store0_apply`. -/
theorem store1_apply (x0 : Vec Ideal S1x256x256 .f32) (x1 x2 : Vec Ideal S1x256x1 .f32) (x3 x4 : Vec Ideal S256x1 .f32)
    (x5 : Vec Ideal S1024x256 .f32) (x6 : Vec Ideal S1024x1 .f32) (e : Fin 1024) (n : Fin 256) :
    k1_pay6 x0 x1 x2 x3 x4 x5 x6 (ix3 0 e n) = k1_pay5 x0 x1 x2 x3 x4 x5 x6 (ix2 e n) := by
  pointwise [k1_pay6]

/-- See `store0_apply`. -/
theorem store2_apply (x0 : Vec Ideal S1x1024x256 .f32) (x1 x2 : Vec Ideal S1x1024x1 .f32) (x3 x4 : Vec Ideal S1024x1 .f32)
    (x5 : Vec Ideal S256x1024 .f32) (x6 : Vec Ideal S256x1 .f32) (o n : Fin 256) :
    k2_pay4 x0 x1 x2 x3 x4 x5 x6 (ix3 0 o n) = k2_pay3 x0 x1 x2 x3 x4 x5 x6 (ix2 o n) := by
  pointwise [k2_pay4]

end Cert.Proof.Blocks

end
-- ==== Proof.Array0.lean ====
/- The first kernel's three output arrays after it has run, each as one function of the arrays the kernel finds: the
   first layer, and its sums and sums of squares over each group of channels and tile of queries. -/
module

public import proofs.«01_k».proof.Proof.Gen.KernelIdeal.Frame
public import Idealize.ShloMosaic.Lib.Pipeline.ValueKit
public import proofs.«01_k».proof.Proof.Blocks

@[expose] public section

set_option maxRecDepth 16384

noncomputable section

namespace Cert.Proof.Array0

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b)) (c : Dev nD) (t : Fin cfg0.N)

/-- The batch entry a grid point works on. -/
def bq : Fin 8 := grid0.coords t 0
/-- The query that lane `n` of a grid point's tile is. -/
def nq (n : Fin 256) : Fin 4096 := ⟨(grid0.coords t 1).val * 256 + n.val, by have : (grid0.coords t 1).val < 16 := (grid0.coords t 1).isLt; omega⟩

theorem e0 : ∀ t : Fin cfg0.N, win0_0.index t = ![(grid0.coords t 0).val, 0, (grid0.coords t 1).val] := (by decide +kernel : ∀ t : Fin grid0.N, _)
theorem e1 : ∀ t : Fin cfg0.N, win0_1.index t = ![(grid0.coords t 0).val, 0, 0] := (by decide +kernel : ∀ t : Fin grid0.N, _)
theorem e2 : ∀ t : Fin cfg0.N, win0_2.index t = ![(grid0.coords t 0).val, (grid0.coords t 1).val, 0] := (by decide +kernel : ∀ t : Fin grid0.N, _)
theorem e3 : ∀ t : Fin cfg0.N, win0_3.index t = ![(grid0.coords t 0).val, 0, 0] := (by decide +kernel : ∀ t : Fin grid0.N, _)
theorem e4 : ∀ t : Fin cfg0.N, win0_4.index t = ![(grid0.coords t 0).val, 0, (grid0.coords t 1).val] := (by decide +kernel : ∀ t : Fin grid0.N, _)
theorem e5 : ∀ t : Fin cfg0.N, win0_5.index t = ![(grid0.coords t 0).val, 0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![(grid0.coords t 0).val, 0, (grid0.coords t 1).val] := (by decide +kernel : ∀ t : Fin grid0.N, _)
theorem e10 : ∀ t : Fin cfg0.N, win0_10.index t = ![(grid0.coords t 0).val, (grid0.coords t 1).val, 0, 0] := (by decide +kernel : ∀ t : Fin grid0.N, _)
theorem e11 : ∀ t : Fin cfg0.N, win0_11.index t = ![(grid0.coords t 0).val, (grid0.coords t 1).val, 0, 0] := (by decide +kernel : ∀ t : Fin grid0.N, _)

theorem bq_val : (bq t).val = (grid0.coords t 0).val := rfl
theorem nq_val (n : Fin 256) : (nq t n).val = (grid0.coords t 1).val * 256 + n.val := rfl

/- Each block, entry by entry, out of its array. -/
theorem blk0 (i : Fin 3) (n : Fin 256) : iblk0 V c 0 t (ix3 0 i n) = V c main_arg0 (ix3 (bq t) i (nq t n)) := by
  blk_simp [iblk0]
  refine congrArg (V c main_arg0) ?_
  blk_ext [e0, bq_val, nq_val]
theorem blk1 (i : Fin 3) (s : Fin 1024) : iblk0 V c 1 t (ix3 0 i s) = V c main_arg2 (ix3 (bq t) i s) := by
  blk_simp [iblk0]
  refine congrArg (V c main_arg2) ?_
  blk_ext [e1, bq_val]
theorem blk2 (n : Fin 256) : iblk0 V c 2 t (ix3 0 n 0) = V c main_v4 (ix3 (bq t) (nq t n) 0) := by
  blk_simp [iblk0]
  refine congrArg (V c main_v4) ?_
  blk_ext [e2, bq_val, nq_val]
theorem blk3 (s : Fin 1024) : iblk0 V c 3 t (ix3 0 0 s) = V c main_v7 (ix3 (bq t) 0 s) := by
  blk_simp [iblk0]
  refine congrArg (V c main_v7) ?_
  blk_ext [e3, bq_val]
theorem blk4 (k : Fin 128) (n : Fin 256) : iblk0 V c 4 t (ix3 0 k n) = V c main_arg1 (ix3 (bq t) k (nq t n)) := by
  blk_simp [iblk0]
  refine congrArg (V c main_arg1) ?_
  blk_ext [e4, bq_val, nq_val]
theorem blk5 (k : Fin 256) (s : Fin 1024) : iblk0 V c 5 t (ix3 0 k s) = V c main_arg3 (ix3 (bq t) k s) := by
  blk_simp [iblk0]
  refine congrArg (V c main_arg3) ?_
  blk_ext [e5, bq_val]
theorem blk6 (o : Fin 256) (k : Fin 128) : iblk0 V c 6 t (ix2 o k) = V c main_v0 (ix2 o k) := by
  blk_simp [iblk0]
  refine congrArg (V c main_v0) ?_
  blk_ext [e6]
theorem blk7 (o k : Fin 256) : iblk0 V c 7 t (ix2 o k) = V c main_v1 (ix2 o k) := by
  blk_simp [iblk0]
  refine congrArg (V c main_v1) ?_
  blk_ext [e7]
theorem blk8 (o : Fin 256) : iblk0 V c 8 t (ix2 o 0) = V c main_v26 (ix2 o 0) := by
  blk_simp [iblk0]
  refine congrArg (V c main_v26) ?_
  blk_ext [e8]

/-- The first layer, entry `(b, o, n)`, from the arrays the kernel finds. -/
def layer (b : Fin 8) (o : Fin 256) (n : Fin 4096) : EReal :=
  Spec.feat
    (fun s => Spec.dist (fun i => V c main_arg0 (ix3 b i n)) (fun i => V c main_arg2 (ix3 b i s)) (V c main_v4 (ix3 b n 0)) (V c main_v7 (ix3 b 0 s)))
    (fun k => V c main_arg1 (ix3 b k n)) (fun k => V c main_v0 (ix2 o k))
    (fun k s => V c main_arg3 (ix3 b k s)) (fun k => V c main_v1 (ix2 o k)) (V c main_v26 (ix2 o 0))

/-- One entry of the block of the first layer that a grid point computes. -/
theorem layer_block (o n : Fin 256) :
    k0_pay7 (k0_pay3 (iblk0 V c 4 t)) (k0_pay4 (iblk0 V c 5 t))
        (k0_pay5 (iblk0 V c 0 t) (iblk0 V c 1 t) (iblk0 V c 2 t) (iblk0 V c 3 t))
        (k0_pay6 (iblk0 V c 0 t) (iblk0 V c 1 t) (iblk0 V c 2 t) (iblk0 V c 3 t))
        (iblk0 V c 6 t) (iblk0 V c 7 t) (iblk0 V c 8 t) (ix2 o n) = layer V c (bq t) o (nq t n) := by
  rw [Blocks.feat_apply]
  simp only [blk0, blk1, blk2, blk3, blk4, blk5, blk6, blk7, blk8]
  rfl

/- Where an output block's entries lie in its array. -/
theorem emb9 (y0 : Fin 1) (y1 y2 : Fin 256) : (win0_9.blk t).view.emb (ix3 y0 y1 y2) = ix3 (bq t) y1 (nq t y2) := by
  blk_ext [e9, bq_val, nq_val]
theorem emb10 (y0 y1 : Fin 1) (y2 : Fin 8) (y3 : Fin 1) : (win0_10.blk t).view.emb (ix4 y0 y1 y2 y3) = ix4 (bq t) (grid0.coords t 1) y2 y3 := by
  blk_ext [e10, bq_val]
theorem emb11 (y0 y1 : Fin 1) (y2 : Fin 8) (y3 : Fin 1) : (win0_11.blk t).view.emb (ix4 y0 y1 y2 y3) = ix4 (bq t) (grid0.coords t 1) y2 y3 := by
  blk_ext [e11, bq_val]

/- What a grid point leaves in each output block. -/
theorem after9 (y0 : Fin 1) (y1 y2 : Fin 256) : (dat0 V c).after 9 t (ix3 y0 y1 y2) = layer V c (bq t) y1 (nq t y2) := by
  rw [after0_9]
  unfold_out out0_9
  frame_out
  obtain rfl : y0 = 0 := Subsingleton.elim _ _
  exact (Blocks.store0_apply _ _ _ _ _ _ _ y1 y2).trans (layer_block V c t y1 y2)
theorem after10 (y0 y1 : Fin 1) (y2 : Fin 8) (y3 : Fin 1) : (dat0 V c).after 10 t (ix4 y0 y1 y2 y3)
    = ∑ k : Fin 32, ∑ n : Fin 256, layer V c (bq t) (Spec.chan32 y2 k) (nq t n) := by
  rw [after0_10]
  unfold_out out0_10
  frame_out
  obtain rfl : y0 = 0 := Subsingleton.elim _ _
  obtain rfl : y1 = 0 := Subsingleton.elim _ _
  obtain rfl : y3 = 0 := Subsingleton.elim _ _
  refine (Blocks.sum0_apply _ _ _ _ _ _ _ y2).trans ?_
  exact Finset.sum_congr rfl fun k _ => Finset.sum_congr rfl fun n _ => layer_block V c t (Spec.chan32 y2 k) n
theorem after11 (y0 y1 : Fin 1) (y2 : Fin 8) (y3 : Fin 1) : (dat0 V c).after 11 t (ix4 y0 y1 y2 y3)
    = ∑ k : Fin 32, ∑ n : Fin 256, layer V c (bq t) (Spec.chan32 y2 k) (nq t n) * layer V c (bq t) (Spec.chan32 y2 k) (nq t n) := by
  rw [after0_11]
  unfold_out out0_11
  frame_out
  obtain rfl : y0 = 0 := Subsingleton.elim _ _
  obtain rfl : y1 = 0 := Subsingleton.elim _ _
  obtain rfl : y3 = 0 := Subsingleton.elim _ _
  refine (Blocks.sq0_apply _ _ _ _ _ _ _ y2).trans ?_
  exact Finset.sum_congr rfl fun k _ => Finset.sum_congr rfl fun n _ =>
    congrArg₂ (· * ·) (layer_block V c t (Spec.chan32 y2 k) n) (layer_block V c t (Spec.chan32 y2 k) n)

/-- The first layer as an array. -/
def layerArr : S8x256x4096.Idx → EReal := fun i => layer V c (i 0) (i 1) (i 2)
/-- The array of its sums over a group of channels and a tile of queries. -/
def sumArr : S8x16x8x1.Idx → EReal := fun i =>
  ∑ k : Fin 32, ∑ n : Fin 256, layer V c (i 0) (Spec.chan32 (i 2) k) (Spec.query (i 1) n)
/-- The array of its sums of squares. -/
def sqArr : S8x16x8x1.Idx → EReal := fun i =>
  ∑ k : Fin 32, ∑ n : Fin 256, layer V c (i 0) (Spec.chan32 (i 2) k) (Spec.query (i 1) n) * layer V c (i 0) (Spec.chan32 (i 2) k) (Spec.query (i 1) n)

/- Every entry of an output array lies in a block. -/
theorem covers9 : (cfg0.win 9).Covers := by decide +kernel
theorem covers10 : (cfg0.win 10).Covers := by decide +kernel
theorem covers11 : (cfg0.win 11).Covers := by decide +kernel

/- What a grid point leaves in a block is the array's entries there. -/
theorem flushed9 (y : S1x256x256.Idx) : (dat0 V c).after 9 t y = layerArr V c ((win0_9.blk t).view.emb y) := by
  idx_vars y
  rw [after9, emb9]
  rfl
theorem flushed10 (y : S1x1x8x1.Idx) : (dat0 V c).after 10 t y = sumArr V c ((win0_10.blk t).view.emb y) := by
  idx_vars y
  rw [after10, emb10]
  rfl
theorem flushed11 (y : S1x1x8x1.Idx) : (dat0 V c).after 11 t y = sqArr V c ((win0_11.blk t).view.emb y) := by
  idx_vars y
  rw [after11, emb11]
  rfl

/-- The first layer's array after the kernel. -/
theorem array_layer : (dat0 V c).arrAt 9 cfg0.N = layerArr V c := by
  refine (dat0 V c).arrAt_eq_of_covers 9 (layerArr V c) covers9 fun t hf y => ?_
  blk_simp
  exact flushed9 V c t y

/-- The sums' array after the kernel. -/
theorem array_sum : (dat0 V c).arrAt 10 cfg0.N = sumArr V c := by
  refine (dat0 V c).arrAt_eq_of_covers 10 (sumArr V c) covers10 fun t hf y => ?_
  blk_simp
  exact flushed10 V c t y

/-- The array of the sums of squares after the kernel. -/
theorem array_sq : (dat0 V c).arrAt 11 cfg0.N = sqArr V c := by
  refine (dat0 V c).arrAt_eq_of_covers 11 (sqArr V c) covers11 fun t hf y => ?_
  blk_simp
  exact flushed11 V c t y

end Cert.Proof.Array0

end
-- ==== Proof.Array1.lean ====
/- The second kernel's four output arrays after it has run, each as one function of the arrays the kernel finds: the
   activated first layer, the second layer, and the second layer's sums and sums of squares over each group of channels
   and tile of queries. -/
module

public import proofs.«01_k».proof.Proof.Gen.KernelIdeal.Frame
public import Idealize.ShloMosaic.Lib.Pipeline.ValueKit
public import proofs.«01_k».proof.Proof.Blocks

@[expose] public section

set_option maxRecDepth 16384

noncomputable section

namespace Cert.Proof.Array1

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b)) (c : Dev nD) (t : Fin cfg1.N)

/-- The batch entry a grid point works on. -/
def bq : Fin 8 := grid1.coords t 0
/-- The query that lane `n` of a grid point's tile is. -/
def nq (n : Fin 256) : Fin 4096 := ⟨(grid1.coords t 1).val * 256 + n.val, by have : (grid1.coords t 1).val < 16 := (grid1.coords t 1).isLt; omega⟩

theorem e0 : ∀ t : Fin cfg1.N, win1_0.index t = ![(grid1.coords t 0).val, 0, (grid1.coords t 1).val] := (by decide +kernel : ∀ t : Fin grid1.N, _)
theorem e1 : ∀ t : Fin cfg1.N, win1_1.index t = ![(grid1.coords t 0).val, 0, 0] := (by decide +kernel : ∀ t : Fin grid1.N, _)
theorem e2 : ∀ t : Fin cfg1.N, win1_2.index t = ![(grid1.coords t 0).val, 0, 0] := (by decide +kernel : ∀ t : Fin grid1.N, _)
theorem e3 : ∀ t : Fin cfg1.N, win1_3.index t = ![0, 0] := (by decide +kernel : ∀ t : Fin grid1.N, _)
theorem e4 : ∀ t : Fin cfg1.N, win1_4.index t = ![0, 0] := (by decide +kernel : ∀ t : Fin grid1.N, _)
theorem e5 : ∀ t : Fin cfg1.N, win1_5.index t = ![0, 0] := (by decide +kernel : ∀ t : Fin grid1.N, _)
theorem e6 : ∀ t : Fin cfg1.N, win1_6.index t = ![0, 0] := (by decide +kernel : ∀ t : Fin grid1.N, _)
theorem e7 : ∀ t : Fin cfg1.N, win1_7.index t = ![(grid1.coords t 0).val, 0, (grid1.coords t 1).val] := (by decide +kernel : ∀ t : Fin grid1.N, _)
theorem e8 : ∀ t : Fin cfg1.N, win1_8.index t = ![(grid1.coords t 0).val, 0, (grid1.coords t 1).val] := (by decide +kernel : ∀ t : Fin grid1.N, _)
theorem e9 : ∀ t : Fin cfg1.N, win1_9.index t = ![(grid1.coords t 0).val, (grid1.coords t 1).val, 0, 0] := (by decide +kernel : ∀ t : Fin grid1.N, _)
theorem e10 : ∀ t : Fin cfg1.N, win1_10.index t = ![(grid1.coords t 0).val, (grid1.coords t 1).val, 0, 0] := (by decide +kernel : ∀ t : Fin grid1.N, _)

theorem bq_val : (bq t).val = (grid1.coords t 0).val := rfl
theorem nq_val (n : Fin 256) : (nq t n).val = (grid1.coords t 1).val * 256 + n.val := rfl

/- Each block, entry by entry, out of its array. -/
theorem blk0 (o : Fin 256) (n : Fin 256) : iblk1 V c 0 t (ix3 0 o n) = V c main_v27_0 (ix3 (bq t) o (nq t n)) := by
  blk_simp [iblk1]
  refine congrArg (V c main_v27_0) ?_
  blk_ext [e0, bq_val, nq_val]
theorem blk1 (o : Fin 256) : iblk1 V c 1 t (ix3 0 o 0) = V c main_v43 (ix3 (bq t) o 0) := by
  blk_simp [iblk1]
  refine congrArg (V c main_v43) ?_
  blk_ext [e1, bq_val]
theorem blk2 (o : Fin 256) : iblk1 V c 2 t (ix3 0 o 0) = V c main_v46 (ix3 (bq t) o 0) := by
  blk_simp [iblk1]
  refine congrArg (V c main_v46) ?_
  blk_ext [e2, bq_val]
theorem blk3 (o : Fin 256) : iblk1 V c 3 t (ix2 o 0) = V c main_v47 (ix2 o 0) := by
  blk_simp [iblk1]
  refine congrArg (V c main_v47) ?_
  blk_ext [e3]
theorem blk4 (o : Fin 256) : iblk1 V c 4 t (ix2 o 0) = V c main_v48 (ix2 o 0) := by
  blk_simp [iblk1]
  refine congrArg (V c main_v48) ?_
  blk_ext [e4]
theorem blk5 (o : Fin 1024) (k : Fin 256) : iblk1 V c 5 t (ix2 o k) = V c main_arg10 (ix2 o k) := by
  blk_simp [iblk1]
  refine congrArg (V c main_arg10) ?_
  blk_ext [e5]
theorem blk6 (o : Fin 1024) : iblk1 V c 6 t (ix2 o 0) = V c main_v49 (ix2 o 0) := by
  blk_simp [iblk1]
  refine congrArg (V c main_v49) ?_
  blk_ext [e6]

/-- The activated first layer, entry `(b, o, n)`, from the arrays the kernel finds. -/
def acted (b : Fin 8) (o : Fin 256) (n : Fin 4096) : EReal :=
  Spec.act (Spec.norm (V c main_v27_0 (ix3 b o n)) (V c main_v43 (ix3 b o 0)) (V c main_v46 (ix3 b o 0)) (V c main_v47 (ix2 o 0)) (V c main_v48 (ix2 o 0)))

/-- The second layer, entry `(b, e, n)`. -/
def layer (b : Fin 8) (e : Fin 1024) (n : Fin 4096) : EReal :=
  Spec.linear (fun o => V c main_arg10 (ix2 e o)) (fun o => acted V c b o n) (V c main_v49 (ix2 e 0))

/-- One entry of the block of the activated first layer that a grid point computes. -/
theorem acted_block (o n : Fin 256) :
    k1_pay3 (iblk1 V c 0 t) (iblk1 V c 1 t) (iblk1 V c 2 t) (iblk1 V c 3 t) (iblk1 V c 4 t) (ix2 o n) = acted V c (bq t) o (nq t n) := by
  rw [Blocks.act_apply]
  simp only [blk0, blk1, blk2, blk3, blk4]
  rfl

/-- One entry of the block of the second layer that a grid point computes. -/
theorem layer_block (e : Fin 1024) (n : Fin 256) :
    k1_pay5 (iblk1 V c 0 t) (iblk1 V c 1 t) (iblk1 V c 2 t) (iblk1 V c 3 t) (iblk1 V c 4 t) (iblk1 V c 5 t) (iblk1 V c 6 t) (ix2 e n)
      = layer V c (bq t) e (nq t n) := by
  rw [Blocks.conv_apply]
  simp only [blk0, blk1, blk2, blk3, blk4, blk5, blk6]
  rfl

/- Where an output block's entries lie in its array. -/
theorem emb7 (y0 : Fin 1) (y1 : Fin 256) (y2 : Fin 256) : (win1_7.blk t).view.emb (ix3 y0 y1 y2) = ix3 (bq t) y1 (nq t y2) := by
  blk_ext [e7, bq_val, nq_val]
theorem emb8 (y0 : Fin 1) (y1 : Fin 1024) (y2 : Fin 256) : (win1_8.blk t).view.emb (ix3 y0 y1 y2) = ix3 (bq t) y1 (nq t y2) := by
  blk_ext [e8, bq_val, nq_val]
theorem emb9 (y0 y1 : Fin 1) (y2 : Fin 8) (y3 : Fin 1) : (win1_9.blk t).view.emb (ix4 y0 y1 y2 y3) = ix4 (bq t) (grid1.coords t 1) y2 y3 := by
  blk_ext [e9, bq_val]
theorem emb10 (y0 y1 : Fin 1) (y2 : Fin 8) (y3 : Fin 1) : (win1_10.blk t).view.emb (ix4 y0 y1 y2 y3) = ix4 (bq t) (grid1.coords t 1) y2 y3 := by
  blk_ext [e10, bq_val]

/- What a grid point leaves in each output block. -/
theorem after7 (y0 : Fin 1) (y1 : Fin 256) (y2 : Fin 256) : (dat1 V c).after 7 t (ix3 y0 y1 y2) = acted V c (bq t) y1 (nq t y2) := by
  rw [after1_7]
  unfold_out out1_7
  frame_out
  obtain rfl : y0 = 0 := Subsingleton.elim _ _
  exact (Blocks.storeAct_apply _ _ _ _ _ y1 y2).trans (acted_block V c t y1 y2)
theorem after8 (y0 : Fin 1) (y1 : Fin 1024) (y2 : Fin 256) : (dat1 V c).after 8 t (ix3 y0 y1 y2) = layer V c (bq t) y1 (nq t y2) := by
  rw [after1_8]
  unfold_out out1_8
  frame_out
  obtain rfl : y0 = 0 := Subsingleton.elim _ _
  exact (Blocks.store1_apply _ _ _ _ _ _ _ y1 y2).trans (layer_block V c t y1 y2)
theorem after9 (y0 y1 : Fin 1) (y2 : Fin 8) (y3 : Fin 1) : (dat1 V c).after 9 t (ix4 y0 y1 y2 y3)
    = ∑ k : Fin 128, ∑ n : Fin 256, layer V c (bq t) (Spec.chan128 y2 k) (nq t n) := by
  rw [after1_9]
  unfold_out out1_9
  frame_out
  obtain rfl : y0 = 0 := Subsingleton.elim _ _
  obtain rfl : y1 = 0 := Subsingleton.elim _ _
  obtain rfl : y3 = 0 := Subsingleton.elim _ _
  refine (Blocks.sum1_apply _ y2).trans ?_
  exact Finset.sum_congr rfl fun k _ => Finset.sum_congr rfl fun n _ => layer_block V c t (Spec.chan128 y2 k) n
theorem after10 (y0 y1 : Fin 1) (y2 : Fin 8) (y3 : Fin 1) : (dat1 V c).after 10 t (ix4 y0 y1 y2 y3)
    = ∑ k : Fin 128, ∑ n : Fin 256, layer V c (bq t) (Spec.chan128 y2 k) (nq t n) * layer V c (bq t) (Spec.chan128 y2 k) (nq t n) := by
  rw [after1_10]
  unfold_out out1_10
  frame_out
  obtain rfl : y0 = 0 := Subsingleton.elim _ _
  obtain rfl : y1 = 0 := Subsingleton.elim _ _
  obtain rfl : y3 = 0 := Subsingleton.elim _ _
  refine (Blocks.sq1_apply _ y2).trans ?_
  exact Finset.sum_congr rfl fun k _ => Finset.sum_congr rfl fun n _ => congrArg₂ (· * ·) (layer_block V c t (Spec.chan128 y2 k) n) (layer_block V c t (Spec.chan128 y2 k) n)

/-- The activated first layer as an array. -/
def actedArr : S8x256x4096.Idx → EReal := fun i => acted V c (i 0) (i 1) (i 2)

/-- The second layer as an array. -/
def layerArr : S8x1024x4096.Idx → EReal := fun i => layer V c (i 0) (i 1) (i 2)
/-- The array of its sums over a group of channels and a tile of queries. -/
def sumArr : S8x16x8x1.Idx → EReal := fun i =>
  ∑ k : Fin 128, ∑ n : Fin 256, layer V c (i 0) (Spec.chan128 (i 2) k) (Spec.query (i 1) n)
/-- The array of its sums of squares. -/
def sqArr : S8x16x8x1.Idx → EReal := fun i =>
  ∑ k : Fin 128, ∑ n : Fin 256, layer V c (i 0) (Spec.chan128 (i 2) k) (Spec.query (i 1) n) * layer V c (i 0) (Spec.chan128 (i 2) k) (Spec.query (i 1) n)

/- Every entry of an output array lies in a block. -/
theorem covers7 : (cfg1.win 7).Covers := by decide +kernel
theorem covers8 : (cfg1.win 8).Covers := by decide +kernel
theorem covers9 : (cfg1.win 9).Covers := by decide +kernel
theorem covers10 : (cfg1.win 10).Covers := by decide +kernel

/- What a grid point leaves in a block is the array's entries there. -/
theorem flushed7 (y : S1x256x256.Idx) : (dat1 V c).after 7 t y = actedArr V c ((win1_7.blk t).view.emb y) := by
  idx_vars y
  rw [after7, emb7]
  rfl
theorem flushed8 (y : S1x1024x256.Idx) : (dat1 V c).after 8 t y = layerArr V c ((win1_8.blk t).view.emb y) := by
  idx_vars y
  rw [after8, emb8]
  rfl
theorem flushed9 (y : S1x1x8x1.Idx) : (dat1 V c).after 9 t y = sumArr V c ((win1_9.blk t).view.emb y) := by
  idx_vars y
  rw [after9, emb9]
  rfl
theorem flushed10 (y : S1x1x8x1.Idx) : (dat1 V c).after 10 t y = sqArr V c ((win1_10.blk t).view.emb y) := by
  idx_vars y
  rw [after10, emb10]
  rfl

/-- The activated first layer's array after the kernel. -/
theorem array_acted : (dat1 V c).arrAt 7 cfg1.N = actedArr V c := by
  refine (dat1 V c).arrAt_eq_of_covers 7 (actedArr V c) covers7 fun t hf y => ?_
  blk_simp
  exact flushed7 V c t y

/-- The second layer's array after the kernel. -/
theorem array_layer : (dat1 V c).arrAt 8 cfg1.N = layerArr V c := by
  refine (dat1 V c).arrAt_eq_of_covers 8 (layerArr V c) covers8 fun t hf y => ?_
  blk_simp
  exact flushed8 V c t y

/-- The sums' array after the kernel. -/
theorem array_sum : (dat1 V c).arrAt 9 cfg1.N = sumArr V c := by
  refine (dat1 V c).arrAt_eq_of_covers 9 (sumArr V c) covers9 fun t hf y => ?_
  blk_simp
  exact flushed9 V c t y

/-- The array of the sums of squares after the kernel. -/
theorem array_sq : (dat1 V c).arrAt 10 cfg1.N = sqArr V c := by
  refine (dat1 V c).arrAt_eq_of_covers 10 (sqArr V c) covers10 fun t hf y => ?_
  blk_simp
  exact flushed10 V c t y

end Cert.Proof.Array1

end
-- ==== Proof.Array2.lean ====
/- The third kernel's three output arrays after it has run, each as one function of the arrays the kernel finds: the
   third layer, and its sums and sums of squares over each group of channels and tile of queries. -/
module

public import proofs.«01_k».proof.Proof.Gen.KernelIdeal.Frame
public import Idealize.ShloMosaic.Lib.Pipeline.ValueKit
public import proofs.«01_k».proof.Proof.Blocks

@[expose] public section

set_option maxRecDepth 16384

noncomputable section

namespace Cert.Proof.Array2

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b)) (c : Dev nD) (t : Fin cfg2.N)

/-- The batch entry a grid point works on. -/
def bq : Fin 8 := grid2.coords t 0
/-- The query that lane `n` of a grid point's tile is. -/
def nq (n : Fin 256) : Fin 4096 := ⟨(grid2.coords t 1).val * 256 + n.val, by have : (grid2.coords t 1).val < 16 := (grid2.coords t 1).isLt; omega⟩

theorem e0 : ∀ t : Fin cfg2.N, win2_0.index t = ![(grid2.coords t 0).val, 0, (grid2.coords t 1).val] := (by decide +kernel : ∀ t : Fin grid2.N, _)
theorem e1 : ∀ t : Fin cfg2.N, win2_1.index t = ![(grid2.coords t 0).val, 0, 0] := (by decide +kernel : ∀ t : Fin grid2.N, _)
theorem e2 : ∀ t : Fin cfg2.N, win2_2.index t = ![(grid2.coords t 0).val, 0, 0] := (by decide +kernel : ∀ t : Fin grid2.N, _)
theorem e3 : ∀ t : Fin cfg2.N, win2_3.index t = ![0, 0] := (by decide +kernel : ∀ t : Fin grid2.N, _)
theorem e4 : ∀ t : Fin cfg2.N, win2_4.index t = ![0, 0] := (by decide +kernel : ∀ t : Fin grid2.N, _)
theorem e5 : ∀ t : Fin cfg2.N, win2_5.index t = ![0, 0] := (by decide +kernel : ∀ t : Fin grid2.N, _)
theorem e6 : ∀ t : Fin cfg2.N, win2_6.index t = ![0, 0] := (by decide +kernel : ∀ t : Fin grid2.N, _)
theorem e7 : ∀ t : Fin cfg2.N, win2_7.index t = ![(grid2.coords t 0).val, 0, (grid2.coords t 1).val] := (by decide +kernel : ∀ t : Fin grid2.N, _)
theorem e8 : ∀ t : Fin cfg2.N, win2_8.index t = ![(grid2.coords t 0).val, (grid2.coords t 1).val, 0, 0] := (by decide +kernel : ∀ t : Fin grid2.N, _)
theorem e9 : ∀ t : Fin cfg2.N, win2_9.index t = ![(grid2.coords t 0).val, (grid2.coords t 1).val, 0, 0] := (by decide +kernel : ∀ t : Fin grid2.N, _)

theorem bq_val : (bq t).val = (grid2.coords t 0).val := rfl
theorem nq_val (n : Fin 256) : (nq t n).val = (grid2.coords t 1).val * 256 + n.val := rfl

/- Each block, entry by entry, out of its array. -/
theorem blk0 (o : Fin 1024) (n : Fin 256) : iblk2 V c 0 t (ix3 0 o n) = V c main_v50_1 (ix3 (bq t) o (nq t n)) := by
  blk_simp [iblk2]
  refine congrArg (V c main_v50_1) ?_
  blk_ext [e0, bq_val, nq_val]
theorem blk1 (o : Fin 1024) : iblk2 V c 1 t (ix3 0 o 0) = V c main_v66 (ix3 (bq t) o 0) := by
  blk_simp [iblk2]
  refine congrArg (V c main_v66) ?_
  blk_ext [e1, bq_val]
theorem blk2 (o : Fin 1024) : iblk2 V c 2 t (ix3 0 o 0) = V c main_v69 (ix3 (bq t) o 0) := by
  blk_simp [iblk2]
  refine congrArg (V c main_v69) ?_
  blk_ext [e2, bq_val]
theorem blk3 (o : Fin 1024) : iblk2 V c 3 t (ix2 o 0) = V c main_v70 (ix2 o 0) := by
  blk_simp [iblk2]
  refine congrArg (V c main_v70) ?_
  blk_ext [e3]
theorem blk4 (o : Fin 1024) : iblk2 V c 4 t (ix2 o 0) = V c main_v71 (ix2 o 0) := by
  blk_simp [iblk2]
  refine congrArg (V c main_v71) ?_
  blk_ext [e4]
theorem blk5 (o : Fin 256) (k : Fin 1024) : iblk2 V c 5 t (ix2 o k) = V c main_arg14 (ix2 o k) := by
  blk_simp [iblk2]
  refine congrArg (V c main_arg14) ?_
  blk_ext [e5]
theorem blk6 (o : Fin 256) : iblk2 V c 6 t (ix2 o 0) = V c main_v72 (ix2 o 0) := by
  blk_simp [iblk2]
  refine congrArg (V c main_v72) ?_
  blk_ext [e6]

/-- The activated second layer, entry `(b, e, n)`, from the arrays the kernel finds. -/
def acted (b : Fin 8) (e : Fin 1024) (n : Fin 4096) : EReal :=
  Spec.act (Spec.norm (V c main_v50_1 (ix3 b e n)) (V c main_v66 (ix3 b e 0)) (V c main_v69 (ix3 b e 0)) (V c main_v70 (ix2 e 0)) (V c main_v71 (ix2 e 0)))

/-- The third layer, entry `(b, o, n)`. -/
def layer (b : Fin 8) (o : Fin 256) (n : Fin 4096) : EReal :=
  Spec.linear (fun e => V c main_arg14 (ix2 o e)) (fun e => acted V c b e n) (V c main_v72 (ix2 o 0))

/-- One entry of the block of the third layer that a grid point computes. -/
theorem layer_block (o n : Fin 256) :
    k2_pay3 (iblk2 V c 0 t) (iblk2 V c 1 t) (iblk2 V c 2 t) (iblk2 V c 3 t) (iblk2 V c 4 t) (iblk2 V c 5 t) (iblk2 V c 6 t) (ix2 o n)
      = layer V c (bq t) o (nq t n) := by
  rw [Blocks.back_apply]
  simp only [blk0, blk1, blk2, blk3, blk4, blk5, blk6]
  rfl

/- Where an output block's entries lie in its array. -/
theorem emb7 (y0 : Fin 1) (y1 : Fin 256) (y2 : Fin 256) : (win2_7.blk t).view.emb (ix3 y0 y1 y2) = ix3 (bq t) y1 (nq t y2) := by
  blk_ext [e7, bq_val, nq_val]
theorem emb8 (y0 y1 : Fin 1) (y2 : Fin 8) (y3 : Fin 1) : (win2_8.blk t).view.emb (ix4 y0 y1 y2 y3) = ix4 (bq t) (grid2.coords t 1) y2 y3 := by
  blk_ext [e8, bq_val]
theorem emb9 (y0 y1 : Fin 1) (y2 : Fin 8) (y3 : Fin 1) : (win2_9.blk t).view.emb (ix4 y0 y1 y2 y3) = ix4 (bq t) (grid2.coords t 1) y2 y3 := by
  blk_ext [e9, bq_val]

/- What a grid point leaves in each output block. -/
theorem after7 (y0 : Fin 1) (y1 : Fin 256) (y2 : Fin 256) : (dat2 V c).after 7 t (ix3 y0 y1 y2) = layer V c (bq t) y1 (nq t y2) := by
  rw [after2_7]
  unfold out2_7
  frame_out
  obtain rfl : y0 = 0 := Subsingleton.elim _ _
  exact (Blocks.store2_apply _ _ _ _ _ _ _ y1 y2).trans (layer_block V c t y1 y2)
theorem after8 (y0 y1 : Fin 1) (y2 : Fin 8) (y3 : Fin 1) : (dat2 V c).after 8 t (ix4 y0 y1 y2 y3)
    = ∑ k : Fin 32, ∑ n : Fin 256, layer V c (bq t) (Spec.chan32 y2 k) (nq t n) := by
  rw [after2_8]
  unfold out2_8
  frame_out
  obtain rfl : y0 = 0 := Subsingleton.elim _ _
  obtain rfl : y1 = 0 := Subsingleton.elim _ _
  obtain rfl : y3 = 0 := Subsingleton.elim _ _
  refine (Blocks.sum2_apply _ _ _ _ _ _ _ y2).trans ?_
  exact Finset.sum_congr rfl fun k _ => Finset.sum_congr rfl fun n _ => layer_block V c t (Spec.chan32 y2 k) n
theorem after9 (y0 y1 : Fin 1) (y2 : Fin 8) (y3 : Fin 1) : (dat2 V c).after 9 t (ix4 y0 y1 y2 y3)
    = ∑ k : Fin 32, ∑ n : Fin 256, layer V c (bq t) (Spec.chan32 y2 k) (nq t n) * layer V c (bq t) (Spec.chan32 y2 k) (nq t n) := by
  rw [after2_9]
  unfold out2_9
  frame_out
  obtain rfl : y0 = 0 := Subsingleton.elim _ _
  obtain rfl : y1 = 0 := Subsingleton.elim _ _
  obtain rfl : y3 = 0 := Subsingleton.elim _ _
  refine (Blocks.sq2_apply _ _ _ _ _ _ _ y2).trans ?_
  exact Finset.sum_congr rfl fun k _ => Finset.sum_congr rfl fun n _ => congrArg₂ (· * ·) (layer_block V c t (Spec.chan32 y2 k) n) (layer_block V c t (Spec.chan32 y2 k) n)

/-- The third layer as an array. -/
def layerArr : S8x256x4096.Idx → EReal := fun i => layer V c (i 0) (i 1) (i 2)
/-- The array of its sums over a group of channels and a tile of queries. -/
def sumArr : S8x16x8x1.Idx → EReal := fun i =>
  ∑ k : Fin 32, ∑ n : Fin 256, layer V c (i 0) (Spec.chan32 (i 2) k) (Spec.query (i 1) n)
/-- The array of its sums of squares. -/
def sqArr : S8x16x8x1.Idx → EReal := fun i =>
  ∑ k : Fin 32, ∑ n : Fin 256, layer V c (i 0) (Spec.chan32 (i 2) k) (Spec.query (i 1) n) * layer V c (i 0) (Spec.chan32 (i 2) k) (Spec.query (i 1) n)

/- Every entry of an output array lies in a block. -/
theorem covers7 : (cfg2.win 7).Covers := by decide +kernel
theorem covers8 : (cfg2.win 8).Covers := by decide +kernel
theorem covers9 : (cfg2.win 9).Covers := by decide +kernel

/- What a grid point leaves in a block is the array's entries there. -/
theorem flushed7 (y : S1x256x256.Idx) : (dat2 V c).after 7 t y = layerArr V c ((win2_7.blk t).view.emb y) := by
  idx_vars y
  rw [after7, emb7]
  rfl
theorem flushed8 (y : S1x1x8x1.Idx) : (dat2 V c).after 8 t y = sumArr V c ((win2_8.blk t).view.emb y) := by
  idx_vars y
  rw [after8, emb8]
  rfl
theorem flushed9 (y : S1x1x8x1.Idx) : (dat2 V c).after 9 t y = sqArr V c ((win2_9.blk t).view.emb y) := by
  idx_vars y
  rw [after9, emb9]
  rfl

/-- The third layer's array after the kernel. -/
theorem array_layer : (dat2 V c).arrAt 7 cfg2.N = layerArr V c := by
  refine (dat2 V c).arrAt_eq_of_covers 7 (layerArr V c) covers7 fun t hf y => ?_
  blk_simp
  exact flushed7 V c t y

/-- The sums' array after the kernel. -/
theorem array_sum : (dat2 V c).arrAt 8 cfg2.N = sumArr V c := by
  refine (dat2 V c).arrAt_eq_of_covers 8 (sumArr V c) covers8 fun t hf y => ?_
  blk_simp
  exact flushed8 V c t y

/-- The array of the sums of squares after the kernel. -/
theorem array_sq : (dat2 V c).arrAt 9 cfg2.N = sqArr V c := by
  refine (dat2 V c).arrAt_eq_of_covers 9 (sqArr V c) covers9 fun t hf y => ?_
  blk_simp
  exact flushed9 V c t y

end Cert.Proof.Array2

end
-- ==== Proof.Array3.lean ====
/- The last kernel's output array after it has run, as one function of the arrays the kernel finds. -/
module

public import proofs.«01_k».proof.Proof.Gen.KernelIdeal.Frame
public import Idealize.ShloMosaic.Lib.Pipeline.ValueKit
public import proofs.«01_k».proof.Proof.Blocks

@[expose] public section

set_option maxRecDepth 16384

noncomputable section

namespace Cert.Proof.Array3

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b)) (c : Dev nD) (t : Fin cfg3.N)

/-- The batch entry a grid point works on. -/
def bq : Fin 8 := grid3.coords t 0
/-- The query that lane `n` of a grid point's tile is. -/
def nq (n : Fin 256) : Fin 4096 := ⟨(grid3.coords t 1).val * 256 + n.val, by have : (grid3.coords t 1).val < 16 := (grid3.coords t 1).isLt; omega⟩

theorem e0 : ∀ t : Fin cfg3.N, win3_0.index t = ![(grid3.coords t 0).val, 0, (grid3.coords t 1).val] := (by decide +kernel : ∀ t : Fin grid3.N, _)
theorem e1 : ∀ t : Fin cfg3.N, win3_1.index t = ![(grid3.coords t 0).val, 0, 0] := (by decide +kernel : ∀ t : Fin grid3.N, _)
theorem e2 : ∀ t : Fin cfg3.N, win3_2.index t = ![(grid3.coords t 0).val, 0, 0] := (by decide +kernel : ∀ t : Fin grid3.N, _)
theorem e3 : ∀ t : Fin cfg3.N, win3_3.index t = ![0, 0] := (by decide +kernel : ∀ t : Fin grid3.N, _)
theorem e4 : ∀ t : Fin cfg3.N, win3_4.index t = ![0, 0] := (by decide +kernel : ∀ t : Fin grid3.N, _)
theorem e5 : ∀ t : Fin cfg3.N, win3_5.index t = ![(grid3.coords t 0).val, 0, 0] := (by decide +kernel : ∀ t : Fin grid3.N, _)
theorem e6 : ∀ t : Fin cfg3.N, win3_6.index t = ![(grid3.coords t 0).val, 0, 0] := (by decide +kernel : ∀ t : Fin grid3.N, _)
theorem e7 : ∀ t : Fin cfg3.N, win3_7.index t = ![(grid3.coords t 0).val, 0, (grid3.coords t 1).val] := (by decide +kernel : ∀ t : Fin grid3.N, _)
theorem e8 : ∀ t : Fin cfg3.N, win3_8.index t = ![(grid3.coords t 0).val, 0, (grid3.coords t 1).val] := (by decide +kernel : ∀ t : Fin grid3.N, _)

theorem bq_val : (bq t).val = (grid3.coords t 0).val := rfl
theorem nq_val (n : Fin 256) : (nq t n).val = (grid3.coords t 1).val * 256 + n.val := rfl

/- Each block, entry by entry, out of its array. -/
theorem blk0 (o : Fin 256) (n : Fin 256) : iblk3 V c 0 t (ix3 0 o n) = V c main_v73_0 (ix3 (bq t) o (nq t n)) := by
  blk_simp [iblk3]
  refine congrArg (V c main_v73_0) ?_
  blk_ext [e0, bq_val, nq_val]
theorem blk1 (o : Fin 256) : iblk3 V c 1 t (ix3 0 o 0) = V c main_v89 (ix3 (bq t) o 0) := by
  blk_simp [iblk3]
  refine congrArg (V c main_v89) ?_
  blk_ext [e1, bq_val]
theorem blk2 (o : Fin 256) : iblk3 V c 2 t (ix3 0 o 0) = V c main_v92 (ix3 (bq t) o 0) := by
  blk_simp [iblk3]
  refine congrArg (V c main_v92) ?_
  blk_ext [e2, bq_val]
theorem blk3 (o : Fin 256) : iblk3 V c 3 t (ix2 o 0) = V c main_v93 (ix2 o 0) := by
  blk_simp [iblk3]
  refine congrArg (V c main_v93) ?_
  blk_ext [e3]
theorem blk4 (o : Fin 256) : iblk3 V c 4 t (ix2 o 0) = V c main_v94 (ix2 o 0) := by
  blk_simp [iblk3]
  refine congrArg (V c main_v94) ?_
  blk_ext [e4]
theorem blk5 (o : Fin 256) : iblk3 V c 5 t (ix3 0 o 0) = V c main_v21 (ix3 (bq t) o 0) := by
  blk_simp [iblk3]
  refine congrArg (V c main_v21) ?_
  blk_ext [e5, bq_val]
theorem blk6 (o : Fin 256) : iblk3 V c 6 t (ix3 0 o 0) = V c main_v25 (ix3 (bq t) o 0) := by
  blk_simp [iblk3]
  refine congrArg (V c main_v25) ?_
  blk_ext [e6, bq_val]
theorem blk7 (o : Fin 256) (n : Fin 256) : iblk3 V c 7 t (ix3 0 o n) = V c main_v50_0 (ix3 (bq t) o (nq t n)) := by
  blk_simp [iblk3]
  refine congrArg (V c main_v50_0) ?_
  blk_ext [e7, bq_val, nq_val]

/-- The result, entry `(b, o, n)`, from the arrays the kernel finds. -/
def last (b : Fin 8) (o : Fin 256) (n : Fin 4096) : EReal :=
  Spec.norm (V c main_v73_0 (ix3 b o n)) (V c main_v89 (ix3 b o 0)) (V c main_v92 (ix3 b o 0)) (V c main_v93 (ix2 o 0)) (V c main_v94 (ix2 o 0))
    * (1 + V c main_v21 (ix3 b o 0)) + V c main_v25 (ix3 b o 0) + V c main_v50_0 (ix3 b o n)

/-- One entry of the block of the result that a grid point computes. -/
theorem last_block (o n : Fin 256) :
    k3_pay1 (k3_pay2 (iblk3 V c 0 t) (iblk3 V c 1 t) (iblk3 V c 2 t) (iblk3 V c 3 t) (iblk3 V c 4 t) (iblk3 V c 5 t) (iblk3 V c 6 t) (iblk3 V c 7 t))
        (ix3 0 o n) = last V c (bq t) o (nq t n) := by
  rw [Blocks.last_apply]
  simp only [blk0, blk1, blk2, blk3, blk4, blk5, blk6, blk7]
  rfl

/- Where an output block's entries lie in its array. -/
theorem emb8 (y0 : Fin 1) (y1 : Fin 256) (y2 : Fin 256) : (win3_8.blk t).view.emb (ix3 y0 y1 y2) = ix3 (bq t) y1 (nq t y2) := by
  blk_ext [e8, bq_val, nq_val]

/- What a grid point leaves in each output block. -/
theorem after8 (y0 : Fin 1) (y1 : Fin 256) (y2 : Fin 256) : (dat3 V c).after 8 t (ix3 y0 y1 y2) = last V c (bq t) y1 (nq t y2) := by
  rw [after3_8]
  unfold out3_8
  frame_out
  obtain rfl : y0 = 0 := Subsingleton.elim _ _
  exact last_block V c t y1 y2

/-- The result as an array. -/
def lastArr : S8x256x4096.Idx → EReal := fun i => last V c (i 0) (i 1) (i 2)

/- Every entry of an output array lies in a block. -/
theorem covers8 : (cfg3.win 8).Covers := by decide +kernel

/- What a grid point leaves in a block is the array's entries there. -/
theorem flushed8 (y : S1x256x256.Idx) : (dat3 V c).after 8 t y = lastArr V c ((win3_8.blk t).view.emb y) := by
  idx_vars y
  rw [after8, emb8]
  rfl

/-- The result's array after the kernel. -/
theorem array_last : (dat3 V c).arrAt 8 cfg3.N = lastArr V c := by
  refine (dat3 V c).arrAt_eq_of_covers 8 (lastArr V c) covers8 fun t hf y => ?_
  blk_simp
  exact flushed8 V c t y

end Cert.Proof.Array3

end
-- ==== Proof.Host0.lean ====
/- What the host prepares before the first kernel, entry by entry. -/
module

public import proofs.«01_k».proof.Proof.Gen.KernelIdeal.Launch
public import Idealize.ShloMosaic.Lib.StableHlo.ReadAt
public import proofs.«01_k».proof.Proof.Spec

@[expose] public section

set_option maxRecDepth 16384

noncomputable section

namespace Cert.Proof.Host0

open Idealize.ShloMosaic Idealize.ShloMosaic.TcCoe Idealize.SL.Sem Cert.KernelIdeal Cert.KernelIdeal.Gen

variable (X : Valuation τ sig (Elt Ideal))

/-- The part of the mixing weights for the skip features. -/
theorem skipWeights (o : Fin 256) (k : Fin 128) :
    StableHlo.after hostOps0 X (Proc.devRef .tc main_v0) (ix2 o k) = X (Proc.devRef .tc main_arg6) (ix2 o ⟨k.val, by omega⟩) := by
  after_reads_at

/-- The part for the interpolated features. -/
theorem nearWeights (o : Fin 256) (k : Fin 256) :
    StableHlo.after hostOps0 X (Proc.devRef .tc main_v1) (ix2 o k) = X (Proc.devRef .tc main_arg6) (ix2 o ⟨128 + k.val, by omega⟩) := by
  after_reads_at

/-- The squared length of a query. -/
theorem queryLength (b : Fin 8) (n : Fin 4096) :
    StableHlo.after hostOps0 X (Proc.devRef .tc main_v4) (ix3 b n 0) = Spec.lenSq fun i => X (Proc.devRef .tc main_arg0) (ix3 b i n) := by
  after_reads_at
  rfl

/-- The squared length of a source point. -/
theorem sourceLength (b : Fin 8) (s : Fin 1024) :
    StableHlo.after hostOps0 X (Proc.devRef .tc main_v7) (ix3 b 0 s) = Spec.lenSq fun i => X (Proc.devRef .tc main_arg2) (ix3 b i s) := by
  after_reads_at
  rfl

/-- The first layer's bias, as a column. -/
theorem biasColumn (o : Fin 256) : StableHlo.after hostOps0 X (Proc.devRef .tc main_v26) (ix2 o 0) = X (Proc.devRef .tc main_arg7) (ix1 o) := by
  after_reads_at

/-- Entry `o` of the two projected embeddings' sum. -/
def project (b : Fin 8) (o : Fin 512) : EReal :=
  Spec.linear (fun x => X (Proc.devRef .tc main_arg4) (ix2 b x)) (fun x => X (Proc.devRef .tc main_arg18) (ix2 o x)) (X (Proc.devRef .tc main_arg19) (ix1 o))
    + Spec.linear (fun x => X (Proc.devRef .tc main_arg5) (ix2 b x)) (fun x => X (Proc.devRef .tc main_arg20) (ix2 o x)) (X (Proc.devRef .tc main_arg21) (ix1 o))

/-- The factor of the result, less one: the first half of the projection. -/
theorem scale (b : Fin 8) (o : Fin 256) :
    StableHlo.after hostOps0 X (Proc.devRef .tc main_v21) (ix3 b o 0) = project X b ⟨o.val, by omega⟩ := by
  after_reads_at
  rfl

/-- The shift of the result: the second half. -/
theorem shift (b : Fin 8) (o : Fin 256) :
    StableHlo.after hostOps0 X (Proc.devRef .tc main_v25) (ix3 b o 0) = project X b ⟨256 + o.val, by omega⟩ := by
  after_reads_at
  rfl

end Cert.Proof.Host0

end
-- ==== Proof.HostStats.lean ====
/- What the host prepares between the kernels, entry by entry: each layer's group means and inverse deviations from the
   tiles' sums, spread over the channels, and the next arguments as columns. -/
module

public import proofs.«01_k».proof.Proof.Gen.KernelIdeal.Launch
public import Idealize.ShloMosaic.Lib.StableHlo.ReadAt
public import proofs.«01_k».proof.Proof.Spec

@[expose] public section

set_option maxRecDepth 16384

noncomputable section

namespace Cert.Proof.HostStats

open Idealize.ShloMosaic Idealize.ShloMosaic.TcCoe Idealize.SL.Sem Cert.KernelIdeal Cert.KernelIdeal.Gen

variable (X : Valuation τ sig (Elt Ideal))

/-- The first layer's means. -/
theorem mean1 (b : Fin 8) (o : Fin 256) : StableHlo.after hostOps1 X (Proc.devRef .tc main_v43) (ix3 b o 0)
    = Spec.mean (fun t => X (Proc.devRef .tc main_v27_1) (ix4 b t (Spec.group32 o) 0)) Spec.count32 := by
  after_reads_at
  rfl

/-- The first layer's inverse deviations. -/
theorem inv1 (b : Fin 8) (o : Fin 256) : StableHlo.after hostOps1 X (Proc.devRef .tc main_v46) (ix3 b o 0)
    = Spec.invDev (fun t => X (Proc.devRef .tc main_v27_1) (ix4 b t (Spec.group32 o) 0)) (fun t => X (Proc.devRef .tc main_v27_2) (ix4 b t (Spec.group32 o) 0)) Spec.count32 := by
  after_reads_at
  rfl

/-- The first layer's gains, as a column. -/
theorem gain1 (o : Fin 256) : StableHlo.after hostOps1 X (Proc.devRef .tc main_v47) (ix2 o 0)
    = X (Proc.devRef .tc main_arg8) (ix1 o) := by
  after_reads_at

/-- The first layer's offsets, as a column. -/
theorem offset1 (o : Fin 256) : StableHlo.after hostOps1 X (Proc.devRef .tc main_v48) (ix2 o 0)
    = X (Proc.devRef .tc main_arg9) (ix1 o) := by
  after_reads_at

/-- The next layer's bias, as a column. -/
theorem bias1 (o : Fin 1024) : StableHlo.after hostOps1 X (Proc.devRef .tc main_v49) (ix2 o 0)
    = X (Proc.devRef .tc main_arg11) (ix1 o) := by
  after_reads_at

/-- The second layer's means. -/
theorem mean2 (b : Fin 8) (o : Fin 1024) : StableHlo.after hostOps2 X (Proc.devRef .tc main_v66) (ix3 b o 0)
    = Spec.mean (fun t => X (Proc.devRef .tc main_v50_2) (ix4 b t (Spec.group128 o) 0)) Spec.count128 := by
  after_reads_at
  rfl

/-- The second layer's inverse deviations. -/
theorem inv2 (b : Fin 8) (o : Fin 1024) : StableHlo.after hostOps2 X (Proc.devRef .tc main_v69) (ix3 b o 0)
    = Spec.invDev (fun t => X (Proc.devRef .tc main_v50_2) (ix4 b t (Spec.group128 o) 0)) (fun t => X (Proc.devRef .tc main_v50_3) (ix4 b t (Spec.group128 o) 0)) Spec.count128 := by
  after_reads_at
  rfl

/-- The second layer's gains, as a column. -/
theorem gain2 (o : Fin 1024) : StableHlo.after hostOps2 X (Proc.devRef .tc main_v70) (ix2 o 0)
    = X (Proc.devRef .tc main_arg12) (ix1 o) := by
  after_reads_at

/-- The second layer's offsets, as a column. -/
theorem offset2 (o : Fin 1024) : StableHlo.after hostOps2 X (Proc.devRef .tc main_v71) (ix2 o 0)
    = X (Proc.devRef .tc main_arg13) (ix1 o) := by
  after_reads_at

/-- The next layer's bias, as a column. -/
theorem bias2 (o : Fin 256) : StableHlo.after hostOps2 X (Proc.devRef .tc main_v72) (ix2 o 0)
    = X (Proc.devRef .tc main_arg15) (ix1 o) := by
  after_reads_at

/-- The third layer's means. -/
theorem mean3 (b : Fin 8) (o : Fin 256) : StableHlo.after hostOps3 X (Proc.devRef .tc main_v89) (ix3 b o 0)
    = Spec.mean (fun t => X (Proc.devRef .tc main_v73_1) (ix4 b t (Spec.group32 o) 0)) Spec.count32 := by
  after_reads_at
  rfl

/-- The third layer's inverse deviations. -/
theorem inv3 (b : Fin 8) (o : Fin 256) : StableHlo.after hostOps3 X (Proc.devRef .tc main_v92) (ix3 b o 0)
    = Spec.invDev (fun t => X (Proc.devRef .tc main_v73_1) (ix4 b t (Spec.group32 o) 0)) (fun t => X (Proc.devRef .tc main_v73_2) (ix4 b t (Spec.group32 o) 0)) Spec.count32 := by
  after_reads_at
  rfl

/-- The third layer's gains, as a column. -/
theorem gain3 (o : Fin 256) : StableHlo.after hostOps3 X (Proc.devRef .tc main_v93) (ix2 o 0)
    = X (Proc.devRef .tc main_arg16) (ix1 o) := by
  after_reads_at

/-- The third layer's offsets, as a column. -/
theorem offset3 (o : Fin 256) : StableHlo.after hostOps3 X (Proc.devRef .tc main_v94) (ix2 o 0)
    = X (Proc.devRef .tc main_arg17) (ix1 o) := by
  after_reads_at

end Cert.Proof.HostStats

end
-- ==== Proof.Net.lean ====
/- The kernel's result as one function of its arguments' entries, and the reference's in the order in which the
   reference computes it from the first layer on. -/
module

public import proofs.«01_k».proof.Proof.Spec

@[expose] public section

noncomputable section

namespace Cert.Proof

open Idealize.ShloMosaic

/-- The twenty-two arguments, entry by entry. -/
structure Args where
  xyz1 : Fin 8 → Fin 3 → Fin 4096 → EReal
  points1 : Fin 8 → Fin 128 → Fin 4096 → EReal
  xyz2 : Fin 8 → Fin 3 → Fin 1024 → EReal
  points2 : Fin 8 → Fin 256 → Fin 1024 → EReal
  timeEmb : Fin 8 → Fin 256 → EReal
  condEmb : Fin 8 → Fin 256 → EReal
  mlpW : Fin 256 → Fin 384 → EReal
  mlpB : Fin 256 → EReal
  gn0g : Fin 256 → EReal
  gn0b : Fin 256 → EReal
  conv1W : Fin 1024 → Fin 256 → EReal
  conv1B : Fin 1024 → EReal
  gn1g : Fin 1024 → EReal
  gn1b : Fin 1024 → EReal
  conv2W : Fin 256 → Fin 1024 → EReal
  conv2B : Fin 256 → EReal
  gn2g : Fin 256 → EReal
  gn2b : Fin 256 → EReal
  timeW : Fin 512 → Fin 256 → EReal
  timeB : Fin 512 → EReal
  condW : Fin 512 → Fin 256 → EReal
  condB : Fin 512 → EReal

namespace Net

/-! ## Group statistics -/

variable {c C : Nat} (chan : Fin 8 → Fin c → Fin C) (grp : Fin C → Fin 8) (cnt : EReal) (x : Fin C → Fin 4096 → EReal)

/-- A group's sum over one tile of queries. -/
def tileSum (g : Fin 8) (t : Fin 16) : EReal := ∑ k : Fin c, ∑ n : Fin 256, x (chan g k) (Spec.query t n)
/-- A group's mean, from the tiles' sums. -/
def tileMean (g : Fin 8) : EReal := Spec.mean (tileSum chan x g) cnt
/-- A group's inverse deviation, from the tiles' sums of squares and the mean. -/
def tileInv (g : Fin 8) : EReal :=
  Spec.invDev (tileSum chan x g) (tileSum chan (fun o n => x o n * x o n) g) cnt
/-- Group normalisation as the kernel computes it. -/
def tileNorm (ga be : Fin C → EReal) (o : Fin C) (n : Fin 4096) : EReal :=
  Spec.norm (x o n) (tileMean chan cnt x (grp o)) (tileInv chan cnt x (grp o)) (ga o) (be o)

/-- A group's sum. -/
def groupSum (g : Fin 8) : EReal := ∑ k : Fin c, ∑ n : Fin 4096, x (chan g k) n
/-- A group's mean. -/
def groupMean (g : Fin 8) : EReal := Ideal.div (groupSum chan x g) cnt
/-- A group's variance: the mean of the squared deviations. -/
def groupVar (g : Fin 8) : EReal :=
  Ideal.div (groupSum chan (fun o n => (x o n - groupMean chan cnt x g) * (x o n - groupMean chan cnt x g)) g) cnt
/-- Group normalisation as the reference computes it. -/
def groupNorm (ga be : Fin C → EReal) (o : Fin C) (n : Fin 4096) : EReal :=
  Ideal.div (x o n - groupMean chan cnt x (grp o)) (Ideal.sqrt (groupVar chan cnt x (grp o) + Spec.litVar)) * ga o + be o

/-! ## The layers -/

variable (A : Args)

/-- The squared distance of query `n` and source point `s`. -/
def distance (b : Fin 8) (n : Fin 4096) (s : Fin 1024) : EReal :=
  Spec.dist (fun i => A.xyz1 b i n) (fun i => A.xyz2 b i s) (Spec.lenSq fun i => A.xyz1 b i n) (Spec.lenSq fun i => A.xyz2 b i s)

/-- The kernel's first layer. -/
def first (b : Fin 8) (o : Fin 256) (n : Fin 4096) : EReal :=
  Spec.feat (distance A b n) (fun k => A.points1 b k n) (fun k => A.mlpW o ⟨k.val, by omega⟩)
    (fun k s => A.points2 b k s) (fun k => A.mlpW o ⟨128 + k.val, by omega⟩) (A.mlpB o)

/-- Entry `o` of a pair of embeddings, projected and added. -/
def project (b : Fin 8) (o : Fin 512) : EReal :=
  Spec.linear (A.timeEmb b) (A.timeW o) (A.timeB o) + Spec.linear (A.condEmb b) (A.condW o) (A.condB o)

/-- The type of a normalisation of `C` channels with gains and offsets. -/
abbrev Norm (C : Nat) : Type := (Fin C → Fin 4096 → EReal) → (Fin C → EReal) → (Fin C → EReal) → Fin C → Fin 4096 → EReal

/-- The activated first layer, over a given first layer `x` and normalisation: what is added to the result at the end. -/
def skip (norm32 : Norm 256) (x : Fin 256 → Fin 4096 → EReal) (o : Fin 256) (n : Fin 4096) : EReal :=
  Spec.act (norm32 x A.gn0g A.gn0b o n)

/-- The second layer. -/
def second (norm32 : Norm 256) (x : Fin 256 → Fin 4096 → EReal) (e : Fin 1024) (n : Fin 4096) : EReal :=
  Spec.linear (A.conv1W e) (fun o => skip A norm32 x o n) (A.conv1B e)

/-- The third layer. -/
def third (norm32 : Norm 256) (norm128 : Norm 1024) (x : Fin 256 → Fin 4096 → EReal) (o : Fin 256) (n : Fin 4096) : EReal :=
  Spec.linear (A.conv2W o) (fun e => Spec.act (norm128 (second A norm32 x) A.gn1g A.gn1b e n)) (A.conv2B o)

/-- The result. -/
def rest (norm32 : Norm 256) (norm128 : Norm 1024) (x : Fin 256 → Fin 4096 → EReal) (b : Fin 8) (o : Fin 256) (n : Fin 4096) : EReal :=
  norm32 (third A norm32 norm128 x) A.gn2g A.gn2b o n * (1 + project A b ⟨o.val, by omega⟩) + project A b ⟨256 + o.val, by omega⟩
    + skip A norm32 x o n

/-- The kernel's normalisation of 256 channels. -/
abbrev tileNorm32 : Norm 256 := tileNorm Spec.chan32 Spec.group32 Spec.count32
/-- The kernel's normalisation of 1024 channels. -/
abbrev tileNorm128 : Norm 1024 := tileNorm Spec.chan128 Spec.group128 Spec.count128
/-- The reference's normalisation of 256 channels. -/
abbrev groupNorm32 : Norm 256 := groupNorm Spec.chan32 Spec.group32 Spec.count32
/-- The reference's normalisation of 1024 channels. -/
abbrev groupNorm128 : Norm 1024 := groupNorm Spec.chan128 Spec.group128 Spec.count128

/-- The kernel's result. -/
def kernel (b : Fin 8) (o : Fin 256) (n : Fin 4096) : EReal := rest A tileNorm32 tileNorm128 (first A b) b o n

/-- The reference's result over a given first layer. -/
def refRest (x : Fin 256 → Fin 4096 → EReal) (b : Fin 8) (o : Fin 256) (n : Fin 4096) : EReal :=
  rest A groupNorm32 groupNorm128 x b o n

end Net

end Cert.Proof

end
-- ==== Proof.KernelValue.lean ====
/- What the kernel's result array holds at the end, through the four kernels and the host's work between them, as one
   function of the argument arrays' entries. -/
module

public import proofs.«01_k».proof.Proof.Array0
public import proofs.«01_k».proof.Proof.Array1
public import proofs.«01_k».proof.Proof.Array2
public import proofs.«01_k».proof.Proof.Array3
public import proofs.«01_k».proof.Proof.Host0
public import proofs.«01_k».proof.Proof.HostStats
public import proofs.«01_k».proof.Proof.Net

@[expose] public section

set_option maxRecDepth 16384

noncomputable section

namespace Cert.Proof.KernelValue

open Idealize.ShloMosaic Idealize.ShloMosaic.TcCoe Idealize.SL.Sem Cert.KernelIdeal Cert.KernelIdeal.Gen

/-- The argument arrays of core `c`, entry by entry. -/
def argsOf (m : (ℓ : Loc nD τ sig) → Buf (Elt Ideal) ℓ) (c : Dev nD) : Args where
  xyz1 b i n := m ((c : Thread nD τ).loc main_arg0) (ix3 b i n)
  points1 b k n := m ((c : Thread nD τ).loc main_arg1) (ix3 b k n)
  xyz2 b i s := m ((c : Thread nD τ).loc main_arg2) (ix3 b i s)
  points2 b k s := m ((c : Thread nD τ).loc main_arg3) (ix3 b k s)
  timeEmb b x := m ((c : Thread nD τ).loc main_arg4) (ix2 b x)
  condEmb b x := m ((c : Thread nD τ).loc main_arg5) (ix2 b x)
  mlpW o k := m ((c : Thread nD τ).loc main_arg6) (ix2 o k)
  mlpB o := m ((c : Thread nD τ).loc main_arg7) (ix1 o)
  gn0g o := m ((c : Thread nD τ).loc main_arg8) (ix1 o)
  gn0b o := m ((c : Thread nD τ).loc main_arg9) (ix1 o)
  conv1W e o := m ((c : Thread nD τ).loc main_arg10) (ix2 e o)
  conv1B e := m ((c : Thread nD τ).loc main_arg11) (ix1 e)
  gn1g e := m ((c : Thread nD τ).loc main_arg12) (ix1 e)
  gn1b e := m ((c : Thread nD τ).loc main_arg13) (ix1 e)
  conv2W o e := m ((c : Thread nD τ).loc main_arg14) (ix2 o e)
  conv2B o := m ((c : Thread nD τ).loc main_arg15) (ix1 o)
  gn2g o := m ((c : Thread nD τ).loc main_arg16) (ix1 o)
  gn2b o := m ((c : Thread nD τ).loc main_arg17) (ix1 o)
  timeW o x := m ((c : Thread nD τ).loc main_arg18) (ix2 o x)
  timeB o := m ((c : Thread nD τ).loc main_arg19) (ix1 o)
  condW o x := m ((c : Thread nD τ).loc main_arg20) (ix2 o x)
  condB o := m ((c : Thread nD τ).loc main_arg21) (ix1 o)

variable (m : (ℓ : Loc nD τ sig) → Buf (Elt Ideal) ℓ) (ρ : Dev nD → PrngReg) (c : Dev nD)

/-! ## The first kernel -/

/-- The first layer the kernel computes is the first layer of the arguments. -/
theorem layer0 : Array0.layer (V1 m ρ) c = Net.first (argsOf m c) := by
  have a0 b i n : V1 m ρ c main_arg0 (ix3 b i n) = (argsOf m c).xyz1 b i n := congrFun (W1_args m ρ c main_arg0 (by decide)) _
  have a1 b i n : V1 m ρ c main_arg1 (ix3 b i n) = (argsOf m c).points1 b i n := congrFun (W1_args m ρ c main_arg1 (by decide)) _
  have a2 b i n : V1 m ρ c main_arg2 (ix3 b i n) = (argsOf m c).xyz2 b i n := congrFun (W1_args m ρ c main_arg2 (by decide)) _
  have a3 b i n : V1 m ρ c main_arg3 (ix3 b i n) = (argsOf m c).points2 b i n := congrFun (W1_args m ρ c main_arg3 (by decide)) _
  have q b n : V1 m ρ c main_v4 (ix3 b n 0) = Spec.lenSq fun i => (argsOf m c).xyz1 b i n := Host0.queryLength (W0 m ρ c) b n
  have p b s : V1 m ρ c main_v7 (ix3 b 0 s) = Spec.lenSq fun i => (argsOf m c).xyz2 b i s := Host0.sourceLength (W0 m ρ c) b s
  have w o (k : Fin 128) : V1 m ρ c main_v0 (ix2 o k) = (argsOf m c).mlpW o ⟨k.val, by omega⟩ := Host0.skipWeights (W0 m ρ c) o k
  have u o (k : Fin 256) : V1 m ρ c main_v1 (ix2 o k) = (argsOf m c).mlpW o ⟨128 + k.val, by omega⟩ := Host0.nearWeights (W0 m ρ c) o k
  have v o : V1 m ρ c main_v26 (ix2 o 0) = (argsOf m c).mlpB o := Host0.biasColumn (W0 m ρ c) o
  funext b o n
  unfold Array0.layer Net.first Net.distance
  simp only [a0, a1, a2, a3, q, p, w, u, v]

/- What the first kernel leaves. -/
theorem first0 : W2 m ρ c (Proc.devRef .tc main_v27_0) = Array0.layerArr (V1 m ρ) c :=
  (W2_arr m ρ c 9).trans (Array0.array_layer (V1 m ρ) c)
theorem sum0 : W2 m ρ c (Proc.devRef .tc main_v27_1) = Array0.sumArr (V1 m ρ) c :=
  (W2_arr m ρ c 10).trans (Array0.array_sum (V1 m ρ) c)
theorem sq0 : W2 m ρ c (Proc.devRef .tc main_v27_2) = Array0.sqArr (V1 m ρ) c :=
  (W2_arr m ρ c 11).trans (Array0.array_sq (V1 m ρ) c)

/-! ## The second kernel -/

/-- The first layer's means. -/
theorem mean1 (b : Fin 8) (o : Fin 256) : V3 m ρ c main_v43 (ix3 b o 0)
    = Net.tileMean Spec.chan32 Spec.count32 (Net.first (argsOf m c) b) (Spec.group32 o) := by
  refine (HostStats.mean1 (W2 m ρ c) b o).trans ?_
  rw [sum0, ← layer0 m ρ c]
  rfl

/-- The first layer's inverse deviations. -/
theorem inv1 (b : Fin 8) (o : Fin 256) : V3 m ρ c main_v46 (ix3 b o 0)
    = Net.tileInv Spec.chan32 Spec.count32 (Net.first (argsOf m c) b) (Spec.group32 o) := by
  refine (HostStats.inv1 (W2 m ρ c) b o).trans ?_
  rw [sum0, sq0, ← layer0 m ρ c]
  rfl

/-- The activated first layer. -/
theorem acted1 (b : Fin 8) (o : Fin 256) (n : Fin 4096) :
    Array1.acted (V3 m ρ) c b o n = Net.skip (argsOf m c) Net.tileNorm32 (Net.first (argsOf m c) b) o n := by
  have x : V3 m ρ c main_v27_0 (ix3 b o n) = Net.first (argsOf m c) b o n := by
    rw [← layer0 m ρ c]
    exact congrFun ((W3_of m ρ c main_v27_0 (by decide)).trans (first0 m ρ c)) _
  have g : V3 m ρ c main_v47 (ix2 o 0) = (argsOf m c).gn0g o :=
    (HostStats.gain1 (W2 m ρ c) o).trans (congrFun (W2_args m ρ c main_arg8 (by decide)) _)
  have h : V3 m ρ c main_v48 (ix2 o 0) = (argsOf m c).gn0b o :=
    (HostStats.offset1 (W2 m ρ c) o).trans (congrFun (W2_args m ρ c main_arg9 (by decide)) _)
  unfold Array1.acted
  rw [x, g, h, mean1, inv1]
  rfl

/-- The second layer. -/
theorem layer1 (b : Fin 8) : Array1.layer (V3 m ρ) c b = Net.second (argsOf m c) Net.tileNorm32 (Net.first (argsOf m c) b) := by
  funext e n
  have w o : V3 m ρ c main_arg10 (ix2 e o) = (argsOf m c).conv1W e o := congrFun (W3_args m ρ c main_arg10 (by decide)) _
  have v : V3 m ρ c main_v49 (ix2 e 0) = (argsOf m c).conv1B e :=
    (HostStats.bias1 (W2 m ρ c) e).trans (congrFun (W2_args m ρ c main_arg11 (by decide)) _)
  unfold Array1.layer
  rw [v]
  simp only [w, acted1]
  rfl

/- What the second kernel leaves. -/
theorem act1 : W4 m ρ c (Proc.devRef .tc main_v50_0) = Array1.actedArr (V3 m ρ) c :=
  (W4_arr m ρ c 7).trans (Array1.array_acted (V3 m ρ) c)
theorem second1 : W4 m ρ c (Proc.devRef .tc main_v50_1) = Array1.layerArr (V3 m ρ) c :=
  (W4_arr m ρ c 8).trans (Array1.array_layer (V3 m ρ) c)
theorem sum1 : W4 m ρ c (Proc.devRef .tc main_v50_2) = Array1.sumArr (V3 m ρ) c :=
  (W4_arr m ρ c 9).trans (Array1.array_sum (V3 m ρ) c)
theorem sq1 : W4 m ρ c (Proc.devRef .tc main_v50_3) = Array1.sqArr (V3 m ρ) c :=
  (W4_arr m ρ c 10).trans (Array1.array_sq (V3 m ρ) c)

/-! ## The third kernel -/

/-- The second layer's means. -/
theorem mean2 (b : Fin 8) (e : Fin 1024) : V5 m ρ c main_v66 (ix3 b e 0)
    = Net.tileMean Spec.chan128 Spec.count128 (Net.second (argsOf m c) Net.tileNorm32 (Net.first (argsOf m c) b)) (Spec.group128 e) := by
  refine (HostStats.mean2 (W4 m ρ c) b e).trans ?_
  rw [sum1, ← layer1 m ρ c b]
  rfl

/-- The second layer's inverse deviations. -/
theorem inv2 (b : Fin 8) (e : Fin 1024) : V5 m ρ c main_v69 (ix3 b e 0)
    = Net.tileInv Spec.chan128 Spec.count128 (Net.second (argsOf m c) Net.tileNorm32 (Net.first (argsOf m c) b)) (Spec.group128 e) := by
  refine (HostStats.inv2 (W4 m ρ c) b e).trans ?_
  rw [sum1, sq1, ← layer1 m ρ c b]
  rfl

/-- The activated second layer. -/
theorem acted2 (b : Fin 8) (e : Fin 1024) (n : Fin 4096) : Array2.acted (V5 m ρ) c b e n
    = Spec.act (Net.tileNorm128 (Net.second (argsOf m c) Net.tileNorm32 (Net.first (argsOf m c) b)) (argsOf m c).gn1g (argsOf m c).gn1b e n) := by
  have x : V5 m ρ c main_v50_1 (ix3 b e n) = Net.second (argsOf m c) Net.tileNorm32 (Net.first (argsOf m c) b) e n := by
    rw [← layer1 m ρ c b]
    exact congrFun ((W5_of m ρ c main_v50_1 (by decide)).trans (second1 m ρ c)) _
  have g : V5 m ρ c main_v70 (ix2 e 0) = (argsOf m c).gn1g e :=
    (HostStats.gain2 (W4 m ρ c) e).trans (congrFun (W4_args m ρ c main_arg12 (by decide)) _)
  have h : V5 m ρ c main_v71 (ix2 e 0) = (argsOf m c).gn1b e :=
    (HostStats.offset2 (W4 m ρ c) e).trans (congrFun (W4_args m ρ c main_arg13 (by decide)) _)
  unfold Array2.acted
  rw [x, g, h, mean2, inv2]
  rfl

/-- The third layer. -/
theorem layer2 (b : Fin 8) : Array2.layer (V5 m ρ) c b
    = Net.third (argsOf m c) Net.tileNorm32 Net.tileNorm128 (Net.first (argsOf m c) b) := by
  funext o n
  have w e : V5 m ρ c main_arg14 (ix2 o e) = (argsOf m c).conv2W o e := congrFun (W5_args m ρ c main_arg14 (by decide)) _
  have v : V5 m ρ c main_v72 (ix2 o 0) = (argsOf m c).conv2B o :=
    (HostStats.bias2 (W4 m ρ c) o).trans (congrFun (W4_args m ρ c main_arg15 (by decide)) _)
  unfold Array2.layer
  rw [v]
  simp only [w, acted2]
  rfl

/- What the third kernel leaves. -/
theorem third2 : W6 m ρ c (Proc.devRef .tc main_v73_0) = Array2.layerArr (V5 m ρ) c :=
  (W6_arr m ρ c 7).trans (Array2.array_layer (V5 m ρ) c)
theorem sum2 : W6 m ρ c (Proc.devRef .tc main_v73_1) = Array2.sumArr (V5 m ρ) c :=
  (W6_arr m ρ c 8).trans (Array2.array_sum (V5 m ρ) c)
theorem sq2 : W6 m ρ c (Proc.devRef .tc main_v73_2) = Array2.sqArr (V5 m ρ) c :=
  (W6_arr m ρ c 9).trans (Array2.array_sq (V5 m ρ) c)

/-! ## The last kernel -/

/-- The third layer's means. -/
theorem mean3 (b : Fin 8) (o : Fin 256) : V7 m ρ c main_v89 (ix3 b o 0)
    = Net.tileMean Spec.chan32 Spec.count32 (Net.third (argsOf m c) Net.tileNorm32 Net.tileNorm128 (Net.first (argsOf m c) b)) (Spec.group32 o) := by
  refine (HostStats.mean3 (W6 m ρ c) b o).trans ?_
  rw [sum2, ← layer2 m ρ c b]
  rfl

/-- The third layer's inverse deviations. -/
theorem inv3 (b : Fin 8) (o : Fin 256) : V7 m ρ c main_v92 (ix3 b o 0)
    = Net.tileInv Spec.chan32 Spec.count32 (Net.third (argsOf m c) Net.tileNorm32 Net.tileNorm128 (Net.first (argsOf m c) b)) (Spec.group32 o) := by
  refine (HostStats.inv3 (W6 m ρ c) b o).trans ?_
  rw [sum2, sq2, ← layer2 m ρ c b]
  rfl

/-- A buffer that only the host's first stretch writes reaches the last kernel as that stretch leaves it. -/
theorem scale3 (b : Fin 8) (o : Fin 256) : V7 m ρ c main_v21 (ix3 b o 0) = Net.project (argsOf m c) b ⟨o.val, by omega⟩ := by
  have e : W7 m ρ c (Proc.devRef .tc main_v21) = W1 m ρ c (Proc.devRef .tc main_v21) :=
    (W7_of m ρ c main_v21 (by decide)).trans <| (W6_of m ρ c main_v21 (by decide)).trans <| (W5_of m ρ c main_v21 (by decide)).trans <|
      (W4_of m ρ c main_v21 (by decide)).trans <| (W3_of m ρ c main_v21 (by decide)).trans (W2_of m ρ c main_v21 (by decide))
  exact (congrFun e _).trans (Host0.scale (W0 m ρ c) b o)

/-- See `scale3`. -/
theorem shift3 (b : Fin 8) (o : Fin 256) : V7 m ρ c main_v25 (ix3 b o 0) = Net.project (argsOf m c) b ⟨256 + o.val, by omega⟩ := by
  have e : W7 m ρ c (Proc.devRef .tc main_v25) = W1 m ρ c (Proc.devRef .tc main_v25) :=
    (W7_of m ρ c main_v25 (by decide)).trans <| (W6_of m ρ c main_v25 (by decide)).trans <| (W5_of m ρ c main_v25 (by decide)).trans <|
      (W4_of m ρ c main_v25 (by decide)).trans <| (W3_of m ρ c main_v25 (by decide)).trans (W2_of m ρ c main_v25 (by decide))
  exact (congrFun e _).trans (Host0.shift (W0 m ρ c) b o)

/-- The result the last kernel computes is the kernel's result on the arguments. -/
theorem last3 (b : Fin 8) (o : Fin 256) (n : Fin 4096) : Array3.last (V7 m ρ) c b o n = Net.kernel (argsOf m c) b o n := by
  have x : V7 m ρ c main_v73_0 (ix3 b o n) = Net.third (argsOf m c) Net.tileNorm32 Net.tileNorm128 (Net.first (argsOf m c) b) o n := by
    rw [← layer2 m ρ c b]
    exact congrFun ((W7_of m ρ c main_v73_0 (by decide)).trans (third2 m ρ c)) _
  have y : V7 m ρ c main_v50_0 (ix3 b o n) = Net.skip (argsOf m c) Net.tileNorm32 (Net.first (argsOf m c) b) o n := by
    rw [← acted1 m ρ c b o n]
    exact congrFun ((W7_of m ρ c main_v50_0 (by decide)).trans <| (W6_of m ρ c main_v50_0 (by decide)).trans <|
      (W5_of m ρ c main_v50_0 (by decide)).trans (act1 m ρ c)) _
  have g : V7 m ρ c main_v93 (ix2 o 0) = (argsOf m c).gn2g o :=
    (HostStats.gain3 (W6 m ρ c) o).trans (congrFun (W6_args m ρ c main_arg16 (by decide)) _)
  have h : V7 m ρ c main_v94 (ix2 o 0) = (argsOf m c).gn2b o :=
    (HostStats.offset3 (W6 m ρ c) o).trans (congrFun (W6_args m ρ c main_arg17 (by decide)) _)
  unfold Array3.last
  rw [x, y, g, h, mean3, inv3, scale3, shift3]
  rfl

/-- The result array at the end. -/
theorem result : W8 m ρ c (Proc.devRef .tc main_v95) = fun i : S8x256x4096.Idx => Net.kernel (argsOf m c) (i 0) (i 1) (i 2) := by
  refine ((W8_arr m ρ c 8).trans (Array3.array_last (V7 m ρ) c)).trans ?_
  funext i
  exact last3 m ρ c (i 0) (i 1) (i 2)

end Cert.Proof.KernelValue

end
-- ==== Proof.KernelRun.lean ====
/- The result array of the kernel's run, from any launch. -/
module

public import proofs.«01_k».proof.Proof.KernelValue
public import proofs.«01_k».proof.Proof.Gen.KernelIdeal.Frame

@[expose] public section

set_option maxRecDepth 16384

noncomputable section

namespace Cert.Proof.KernelRun

open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable (m : (ℓ : Loc nD τ sig) → Buf (Elt Ideal) ℓ) (ρ : Dev nD → PrngReg)

/-- The result as an array. -/
def out (c : Dev nD) : FVec Ideal S8x256x4096 .f32 := fun i => Net.kernel (KernelValue.argsOf m c) (i 0) (i 1) (i 2)

/-- The separation-logic assertions of this program. -/
abbrev Prp : Type := sProp (MT nD τ sig Unit (Elt Ideal) ℕ (UR sig nD τ) ℕ)

set_option backward.isDefEq.respectTransparency.types false in
/-- The run ends with the result array at `out`: the launch over the program's segments, the last segment's array read
    against the final state. -/
theorem run : θ_run defs (onTc (τ := τ) (main (F := Ideal))) ⟨m, fun _ => 0, ρ⟩ (fun r => ∀ c : Dev nD,
      r.2.mem ((c.tc : Thread nD τ).loc main_v95) = out m c) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : Prp)
            ⊢ BI.own (emb₁ (initOf (Pipeline.cells cfgs cellOf_inj) (Pipeline.launchToks cfgs cellOf_inj))) from .rfl)
        iexact Hu
      iapply (show (BI.emp : Prp) ⊢ bigSep Finset.univ (fun _ : Dev nD => (BI.emp : Prp)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ c => (h c _ (mem_uc main_v95 (by decide))).trans (KernelValue.result m ρ c))

end Cert.Proof.KernelRun

end
-- ==== Proof.Consts.lean ====
/- The values of the literals of the two programs. -/
module

public import proofs.«01_k».proof.Proof.Spec

@[expose] public section

noncomputable section

namespace Cert.Proof.Consts

open Idealize.ShloMosaic

/-- The mask literal is the top of the order. -/
theorem inf_eq : Spec.litInf = ⊤ := by
  simp [Ideal.ofBits, Ideal.ieee, -EReal.coe_mul]

/-- The factor literal is `-2`. -/
theorem negTwo_eq : Spec.litNegTwo = ((-2 : ℝ) : EReal) := by
  simp [Ideal.ofBits, Ideal.ieee, -EReal.coe_mul]
  norm_num

/-- A group of 32 channels has 131072 entries. -/
theorem count32_eq : Spec.count32 = ((131072 : ℝ) : EReal) := by
  simp [Ideal.ofBits, Ideal.ieee, -EReal.coe_mul]
  norm_num

/-- A group of 128 channels has 524288 entries. -/
theorem count128_eq : Spec.count128 = ((524288 : ℝ) : EReal) := by
  simp [Ideal.ofBits, Ideal.ieee, -EReal.coe_mul]
  norm_num

/-- The literal added to a distance is a positive number. -/
theorem dist_pos : ∃ e : ℝ, 0 < e ∧ Spec.litDist = (e : EReal) := by
  refine ⟨11258999 * 2 ^ (-50 : ℤ), by positivity, ?_⟩
  simp [Ideal.ofBits, Ideal.ieee, -EReal.coe_mul]

/-- The literal added to a variance is a positive number. -/
theorem var_pos : ∃ e : ℝ, 0 < e ∧ Spec.litVar = (e : EReal) := by
  refine ⟨10995116 * 2 ^ (-40 : ℤ), by positivity, ?_⟩
  simp [Ideal.ofBits, Ideal.ieee, -EReal.coe_mul]

end Cert.Proof.Consts

end
-- ==== Proof.RefNorm.lean ====
/- The reference's group normalisation, as a function of whole arrays, read at an index: over 8 groups of 32 channels
   and over 8 groups of 128 channels. -/
module

public import proofs.«01_k».proof.Proof.Net
public import proofs.«01_k».proof.Proof.Consts
public import proofs.«01_k».proof.Proof.Gen.ReferenceIdeal.Run

@[expose] public section

set_option maxRecDepth 16384

noncomputable section

namespace Cert.Proof.RefNorm

open Idealize.ShloMosaic Idealize.ShloMosaic.TcCoe Cert.ReferenceIdeal Cert.ReferenceIdeal.Gen

/-- An array of floats of a given shape. -/
abbrev Arr (s : Shape) : Type := FVec Ideal s .f32

/-- Channel `o` is its place in its group of 32. -/
theorem chan32_place (o : Fin 256) : Spec.chan32 ⟨o.val / 32, by omega⟩ ⟨o.val % 32, by omega⟩ = o :=
  Fin.ext (by simp only [Spec.chan32]; omega)
/-- Channel `e` is its place in its group of 128. -/
theorem chan128_place (e : Fin 1024) : Spec.chan128 ⟨e.val / 128, by omega⟩ ⟨e.val % 128, by omega⟩ = e :=
  Fin.ext (by simp only [Spec.chan128]; omega)

/-! ## Groups of 32 channels -/

/-- The count the variance is divided by. -/
def count32 : Arr S_ := subf (constant S_ .f32 0x48000000#32) (sitofp .f32 (constantI S_ 32 0#32))

/-- The deviations from the groups' means. -/
def dev32 (x : Arr S8x8x32x4096) : Arr S8x8x32x4096 :=
  subf x (broadcastInDim S8x8x32x4096 ![0, 1, 2, 3] bcast_S8x8x1x1_S8x8x32x4096_0_1_2_3 (Host.divf (broadcastInDim S8x8x1x1 ![0, 1] bcast_S8x8_S8x8x1x1_0_1 (Host.reduceAdd x (constant S_ .f32 0x00000000#32) reducesTo_S8x8x32x4096_S8x8_d2_3 h_S_)) (broadcastInDim S8x8x1x1 ![] bcast_S_S8x8x1x1 (constant S_ .f32 0x48000000#32))))

/-- The groups' variances. -/
def var32 (x : Arr S8x8x32x4096) : Arr S8x8x1x1 :=
  select (broadcastInDim S8x8x1x1 ![] bcast_S_S8x8x1x1 (cmpf .ogt count32 (constant S_ .f32 0x00000000#32))) (Host.divf (broadcastInDim S8x8x1x1 ![0, 1] bcast_S8x8_S8x8x1x1_0_1 (Host.reduceAdd (mulf (dev32 x) (dev32 x)) (constant S_ .f32 0x00000000#32) reducesTo_S8x8x32x4096_S8x8_d2_3 h_S_)) (broadcastInDim S8x8x1x1 ![] bcast_S_S8x8x1x1 count32)) (broadcastInDim S8x8x1x1 ![] bcast_S_S8x8x1x1 (id (constant S_ .f32 0x7FC00000#32)))

/-- The normalised array, scaled and shifted by channel. -/
def norm32 (x : Arr S8x8x32x4096) (ga be : Arr S256) : Arr S8x256x4096 :=
  addf (mulf (shapeCast _ (Host.divf (dev32 x) (broadcastInDim S8x8x32x4096 ![0, 1, 2, 3] bcast_S8x8x1x1_S8x8x32x4096_0_1_2_3 (Host.sqrt (addf (var32 x) (broadcastInDim S8x8x1x1 ![] bcast_S_S8x8x1x1 (constant S_ .f32 0x3727C5AC#32)))))) shapeCasts_S8x8x32x4096_S8x256x4096) (broadcastInDim S8x256x4096 ![0, 1, 2] bcast_S1x256x1_S8x256x4096_0_1_2 (broadcastInDim S1x256x1 ![1] bcast_S256_S1x256x1_1 ga))) (broadcastInDim S8x256x4096 ![0, 1, 2] bcast_S1x256x1_S8x256x4096_0_1_2 (broadcastInDim S1x256x1 ![1] bcast_S256_S1x256x1_1 be))

theorem count32_apply : count32 ix0 = Spec.count32 := by
  pointwise [count32]
  have h : (FloatOps.sitofp FTy.f32 0#32 : Ideal FTy.f32) = (0 : EReal) := by
    show (((0#32).toInt : ℝ) : EReal) = 0
    simp
  rw [h]
  exact sub_zero _

section
variable (x : Arr S8x8x32x4096) (b : Fin 8) (f : Fin 256 → Fin 4096 → EReal)
  (hf : ∀ (g : Fin 8) (k : Fin 32) (n : Fin 4096), x (ix4 b g k n) = f (Spec.chan32 g k) n)
include hf

theorem dev32_apply (g : Fin 8) (k : Fin 32) (n : Fin 4096) :
    dev32 x (ix4 b g k n) = (f (Spec.chan32 g k) n - Net.groupMean Spec.chan32 Spec.count32 f g : EReal) := by
  pointwise [dev32]
  simp only [hf]
  rfl

theorem var32_apply (g : Fin 8) : var32 x (ix4 b g 0 0) = Net.groupVar Spec.chan32 Spec.count32 f g := by
  pointwise [var32]
  simp only [dev32_apply x b f hf, count32_apply]
  rw [if_pos (by rw [Consts.count32_eq]; exact_mod_cast (by norm_num : (0 : ℝ) < 131072))]
  rfl

/-- The normalised array at an index is the normalisation of the entries. -/
theorem norm32_apply (ga be : Arr S256) (o : Fin 256) (n : Fin 4096) :
    norm32 x ga be (ix3 b o n) = Net.groupNorm32 f (fun o => ga (ix1 o)) (fun o => be (ix1 o)) o n := by
  pointwise [norm32]
  simp only [dev32_apply x b f hf, chan32_place, var32_apply x b f hf]
  rfl
end

/-! ## Groups of 128 channels -/

/-- The count the variance is divided by. -/
def count128 : Arr S_ := subf (constant S_ .f32 0x49000000#32) (sitofp .f32 (constantI S_ 32 0#32))

/-- The deviations from the groups' means. -/
def dev128 (x : Arr S8x8x128x4096) : Arr S8x8x128x4096 :=
  subf x (broadcastInDim S8x8x128x4096 ![0, 1, 2, 3] bcast_S8x8x1x1_S8x8x128x4096_0_1_2_3 (Host.divf (broadcastInDim S8x8x1x1 ![0, 1] bcast_S8x8_S8x8x1x1_0_1 (Host.reduceAdd x (constant S_ .f32 0x00000000#32) reducesTo_S8x8x128x4096_S8x8_d2_3 h_S_)) (broadcastInDim S8x8x1x1 ![] bcast_S_S8x8x1x1 (constant S_ .f32 0x49000000#32))))

/-- The groups' variances. -/
def var128 (x : Arr S8x8x128x4096) : Arr S8x8x1x1 :=
  select (broadcastInDim S8x8x1x1 ![] bcast_S_S8x8x1x1 (cmpf .ogt count128 (constant S_ .f32 0x00000000#32))) (Host.divf (broadcastInDim S8x8x1x1 ![0, 1] bcast_S8x8_S8x8x1x1_0_1 (Host.reduceAdd (mulf (dev128 x) (dev128 x)) (constant S_ .f32 0x00000000#32) reducesTo_S8x8x128x4096_S8x8_d2_3 h_S_)) (broadcastInDim S8x8x1x1 ![] bcast_S_S8x8x1x1 count128)) (broadcastInDim S8x8x1x1 ![] bcast_S_S8x8x1x1 (id (constant S_ .f32 0x7FC00000#32)))

/-- The normalised array, scaled and shifted by channel. -/
def norm128 (x : Arr S8x8x128x4096) (ga be : Arr S1024) : Arr S8x1024x4096 :=
  addf (mulf (shapeCast _ (Host.divf (dev128 x) (broadcastInDim S8x8x128x4096 ![0, 1, 2, 3] bcast_S8x8x1x1_S8x8x128x4096_0_1_2_3 (Host.sqrt (addf (var128 x) (broadcastInDim S8x8x1x1 ![] bcast_S_S8x8x1x1 (constant S_ .f32 0x3727C5AC#32)))))) shapeCasts_S8x8x128x4096_S8x1024x4096) (broadcastInDim S8x1024x4096 ![0, 1, 2] bcast_S1x1024x1_S8x1024x4096_0_1_2 (broadcastInDim S1x1024x1 ![1] bcast_S1024_S1x1024x1_1 ga))) (broadcastInDim S8x1024x4096 ![0, 1, 2] bcast_S1x1024x1_S8x1024x4096_0_1_2 (broadcastInDim S1x1024x1 ![1] bcast_S1024_S1x1024x1_1 be))

theorem count128_apply : count128 ix0 = Spec.count128 := by
  pointwise [count128]
  have h : (FloatOps.sitofp FTy.f32 0#32 : Ideal FTy.f32) = (0 : EReal) := by
    show (((0#32).toInt : ℝ) : EReal) = 0
    simp
  rw [h]
  exact sub_zero _

section
variable (x : Arr S8x8x128x4096) (b : Fin 8) (f : Fin 1024 → Fin 4096 → EReal)
  (hf : ∀ (g : Fin 8) (k : Fin 128) (n : Fin 4096), x (ix4 b g k n) = f (Spec.chan128 g k) n)
include hf

theorem dev128_apply (g : Fin 8) (k : Fin 128) (n : Fin 4096) :
    dev128 x (ix4 b g k n) = (f (Spec.chan128 g k) n - Net.groupMean Spec.chan128 Spec.count128 f g : EReal) := by
  pointwise [dev128]
  simp only [hf]
  rfl

theorem var128_apply (g : Fin 8) : var128 x (ix4 b g 0 0) = Net.groupVar Spec.chan128 Spec.count128 f g := by
  pointwise [var128]
  simp only [dev128_apply x b f hf, count128_apply]
  rw [if_pos (by rw [Consts.count128_eq]; exact_mod_cast (by norm_num : (0 : ℝ) < 524288))]
  rfl

/-- The normalised array at an index is the normalisation of the entries. -/
theorem norm128_apply (ga be : Arr S1024) (o : Fin 1024) (n : Fin 4096) :
    norm128 x ga be (ix3 b o n) = Net.groupNorm128 f (fun o => ga (ix1 o)) (fun o => be (ix1 o)) o n := by
  pointwise [norm128]
  simp only [dev128_apply x b f hf, chan128_place, var128_apply x b f hf]
  rfl
end

end Cert.Proof.RefNorm

end
-- ==== Proof.RefRest.lean ====
/- The reference's result array, from its first layer on, read at an index. -/
module

public import proofs.«01_k».proof.Proof.RefNorm

@[expose] public section

set_option maxRecDepth 16384

noncomputable section

namespace Cert.Proof.RefRest

open Idealize.ShloMosaic Idealize.ShloMosaic.TcCoe Cert.ReferenceIdeal Cert.ReferenceIdeal.Gen Cert.ReferenceIdeal.Value

variable (X : Valuation τ sig (Elt Ideal))

/-- The argument arrays, entry by entry. -/
def argsOf : Args where
  xyz1 b i n := X (Proc.devRef .tc main_arg0) (ix3 b i n)
  points1 b k n := X (Proc.devRef .tc main_arg1) (ix3 b k n)
  xyz2 b i s := X (Proc.devRef .tc main_arg2) (ix3 b i s)
  points2 b k s := X (Proc.devRef .tc main_arg3) (ix3 b k s)
  timeEmb b x := X (Proc.devRef .tc main_arg4) (ix2 b x)
  condEmb b x := X (Proc.devRef .tc main_arg5) (ix2 b x)
  mlpW o k := X (Proc.devRef .tc main_arg6) (ix2 o k)
  mlpB o := X (Proc.devRef .tc main_arg7) (ix1 o)
  gn0g o := X (Proc.devRef .tc main_arg8) (ix1 o)
  gn0b o := X (Proc.devRef .tc main_arg9) (ix1 o)
  conv1W e o := X (Proc.devRef .tc main_arg10) (ix2 e o)
  conv1B e := X (Proc.devRef .tc main_arg11) (ix1 e)
  gn1g e := X (Proc.devRef .tc main_arg12) (ix1 e)
  gn1b e := X (Proc.devRef .tc main_arg13) (ix1 e)
  conv2W o e := X (Proc.devRef .tc main_arg14) (ix2 o e)
  conv2B o := X (Proc.devRef .tc main_arg15) (ix1 o)
  gn2g o := X (Proc.devRef .tc main_arg16) (ix1 o)
  gn2b o := X (Proc.devRef .tc main_arg17) (ix1 o)
  timeW o x := X (Proc.devRef .tc main_arg18) (ix2 o x)
  timeB o := X (Proc.devRef .tc main_arg19) (ix1 o)
  condW o x := X (Proc.devRef .tc main_arg20) (ix2 o x)
  condB o := X (Proc.devRef .tc main_arg21) (ix1 o)

/-- The result array, over the arrays computed on the way to it. -/
def result : FVec Ideal S8x256x4096 .f32 :=
  addf (addf (mulf (RefNorm.norm32 (res_main_v101 X) (X (Proc.devRef .tc main_arg16)) (X (Proc.devRef .tc main_arg17))) (broadcastInDim S8x256x4096 ![0, 1, 2] bcast_S8x256x1_S8x256x4096_0_1_2 (addf (broadcastInDim S8x256x1 ![] bcast_S_S8x256x1 (constant S_ .f32 0x3F800000#32)) (broadcastInDim S8x256x1 ![0, 1] bcast_S8x256_S8x256x1_0_1 (addf (extractStridedSlice S8x256 ![0, 0] (res_main_v125 X) slices_S8x512_S8x256_0_0) (extractStridedSlice S8x256 ![0, 0] (res_main_v130 X) slices_S8x512_S8x256_0_0)))))) (broadcastInDim S8x256x4096 ![0, 1, 2] bcast_S8x256x1_S8x256x4096_0_1_2 (broadcastInDim S8x256x1 ![0, 1] bcast_S8x256_S8x256x1_0_1 (addf (extractStridedSlice S8x256 ![0, 256] (res_main_v125 X) slices_S8x512_S8x256_0_256) (extractStridedSlice S8x256 ![0, 256] (res_main_v130 X) slices_S8x512_S8x256_0_256))))) (res_main_v63 X)

/-- A column times a row of weights plus a bias, the weights on the right. -/
theorem linear_right {K : Nat} (w x : Fin K → EReal) (b : EReal) : (∑ k, x k * w k) + b = Spec.linear w x b :=
  congrArg (· + b) (Finset.sum_congr rfl fun _ _ => mul_comm _ _)

/-- The time embedding, projected. -/
theorem time_apply (b : Fin 8) (o : Fin 512) :
    res_main_v125 X (ix2 b o) = Spec.linear ((argsOf X).timeEmb b) ((argsOf X).timeW o) ((argsOf X).timeB o) := by
  pointwise [res_main_v125]
  rfl

/-- The condition embedding, projected. -/
theorem cond_apply (b : Fin 8) (o : Fin 512) :
    res_main_v130 X (ix2 b o) = Spec.linear ((argsOf X).condEmb b) ((argsOf X).condW o) ((argsOf X).condB o) := by
  pointwise [res_main_v130]
  rfl

section
variable (f : Fin 8 → Fin 256 → Fin 4096 → EReal)
  (hf : ∀ (b g : Fin 8) (k : Fin 32) (n : Fin 4096), res_main_v37 X (ix4 b g k n) = f b (Spec.chan32 g k) n)
include hf

theorem norm0_apply (b : Fin 8) (o : Fin 256) (n : Fin 4096) :
    res_main_v56 X (ix3 b o n) = Net.groupNorm32 (f b) (argsOf X).gn0g (argsOf X).gn0b o n :=
  RefNorm.norm32_apply (res_main_v37 X) b (f b) (hf b) (X (Proc.devRef .tc main_arg8)) (X (Proc.devRef .tc main_arg9)) o n

theorem skip_apply (b : Fin 8) (o : Fin 256) (n : Fin 4096) :
    res_main_v63 X (ix3 b o n) = Net.skip (argsOf X) Net.groupNorm32 (f b) o n := by
  pointwise [res_main_v63]
  simp only [norm0_apply X f hf]
  rfl

theorem second_apply (b g : Fin 8) (k : Fin 128) (n : Fin 4096) :
    res_main_v69 X (ix4 b g k n) = Net.second (argsOf X) Net.groupNorm32 (f b) (Spec.chan128 g k) n := by
  pointwise [res_main_v69]
  simp only [skip_apply X f hf]
  exact linear_right _ (fun o => Net.skip (argsOf X) Net.groupNorm32 (f b) o n) _

theorem norm1_apply (b : Fin 8) (e : Fin 1024) (n : Fin 4096) :
    res_main_v88 X (ix3 b e n)
      = Net.groupNorm128 (Net.second (argsOf X) Net.groupNorm32 (f b)) (argsOf X).gn1g (argsOf X).gn1b e n :=
  RefNorm.norm128_apply (res_main_v69 X) b _ (second_apply X f hf b) (X (Proc.devRef .tc main_arg12)) (X (Proc.devRef .tc main_arg13)) e n

theorem third_apply (b g : Fin 8) (k : Fin 32) (n : Fin 4096) :
    res_main_v101 X (ix4 b g k n) = Net.third (argsOf X) Net.groupNorm32 Net.groupNorm128 (f b) (Spec.chan32 g k) n := by
  pointwise [res_main_v101]
  simp only [norm1_apply X f hf]
  exact linear_right _ (fun e => Spec.act (Net.groupNorm128 _ (argsOf X).gn1g (argsOf X).gn1b e n)) _

theorem norm2_apply (b : Fin 8) (o : Fin 256) (n : Fin 4096) :
    RefNorm.norm32 (res_main_v101 X) (X (Proc.devRef .tc main_arg16)) (X (Proc.devRef .tc main_arg17)) (ix3 b o n)
      = Net.groupNorm32 (Net.third (argsOf X) Net.groupNorm32 Net.groupNorm128 (f b)) (argsOf X).gn2g (argsOf X).gn2b o n :=
  RefNorm.norm32_apply (res_main_v101 X) b _ (third_apply X f hf b) (X (Proc.devRef .tc main_arg16)) (X (Proc.devRef .tc main_arg17)) o n

/-- The result at an index, over the first layer. -/
theorem result_apply (b : Fin 8) (o : Fin 256) (n : Fin 4096) :
    result X (ix3 b o n) = Net.refRest (argsOf X) (f b) b o n := by
  pointwise [result]
  simp only [norm2_apply X f hf, skip_apply X f hf, time_apply, cond_apply]
  rfl
end

end Cert.Proof.RefRest

end
-- ==== Proof.Order.lean ====
/- The greatest entries of every row of an array of rows, as the rows' entries at the places a stable sort puts first:
   what the places are, what order the entries stand in, and the two results of a top-k read at an index. -/
module

public import Idealize.ShloMosaic.Lib.Pointwise
public import Idealize.ShloMosaic.Lib.SortFacts

@[expose] public section

noncomputable section

namespace Cert.Proof.Order

open Idealize.ShloMosaic

/-- Entry `k` of a row stands before entry `k'` in the order from the greatest down. -/
def before (r : Fin 1024 → EReal) (k k' : Fin 1024) : Bool := FloatOps.cmpfTotal (F := Ideal) (φ := .f32) .gt (r k) (r k') == 1#1

theorem before_iff (r : Fin 1024 → EReal) (k k' : Fin 1024) : before r k k' = decide (r k' < r k) := by
  unfold before
  show (BitVec.ofBool (decide (r k' < r k)) == 1#1) = _
  by_cases h : r k' < r k <;> simp [h]

/-- The place in the row of the `j`-th greatest entry. -/
def place (r : Fin 1024 → EReal) : Fin 1024 → Fin 1024 := sortedFrom (before r)

theorem place_injective (r : Fin 1024 → EReal) : Function.Injective (place r) := sortedFrom_injective _
theorem place_surjective (r : Fin 1024 → EReal) : Function.Surjective (place r) := sortedFrom_surjective _

/-- The entries fall along the places. -/
theorem place_anti (r : Fin 1024 → EReal) (i j : Fin 1024) (h : i ≤ j) : r (place r j) ≤ r (place r i) := by
  rcases h.eq_or_lt with rfl | h
  · exact le_rfl
  · have := sortedFrom_noInversion (before r) (before r)
      (fun a b h => by
        rw [before_iff] at h ⊢
        exact decide_eq_false (not_lt.2 (of_decide_eq_true h).le))
      (fun _ _ h => h)
      (fun a b c h h' => by
        rw [before_iff] at h h' ⊢
        exact decide_eq_false (not_lt.2 ((not_lt.1 (of_decide_eq_false h)).trans (not_lt.1 (of_decide_eq_false h'))))) i j h
    rw [before_iff] at this
    exact not_lt.1 (of_decide_eq_false this)

/-- The shape of 8 × 4096 rows of `K` entries. -/
abbrev Rows (K : Nat) : Shape := ⟨3, ![8, 4096, K]⟩

variable {K : Nat} (hK : K ≤ 1024) (x : FVec Ideal (Rows 1024) .f32) (h : (Rows 1024).Slices (fun _ => 0) (Rows K))

/-- The index of entry `s` in the row of `(b, n)` is that row's index with its last coordinate replaced. -/
theorem along_apply (b : Fin 8) (n : Fin 4096) (s k : Fin 1024) :
    (ix3 b n s : (Rows 1024).Idx).along 2 k = ix3 b n k := by
  funext a
  unfold Shape.Idx.along
  match a with
  | ⟨0, _⟩ => exact Function.update_of_ne (Fin.ne_of_val_ne (show (0 : Nat) ≠ 2 by decide)) _ _
  | ⟨1, _⟩ => exact Function.update_of_ne (Fin.ne_of_val_ne (show (1 : Nat) ≠ 2 by decide)) _ _
  | ⟨2, _⟩ => exact Function.update_self _ _ _

include hK in
/-- Cutting the rows at their start keeps the index. -/
theorem cut_apply (b : Fin 8) (n : Fin 4096) (k : Fin K) :
    (fun a => ⟨0 + ((ix3 b n k : (Rows K).Idx) (a.cast h.1.symm)).val,
    Nat.lt_of_lt_of_le (Nat.add_lt_add_left ((ix3 b n k : (Rows K).Idx) _).isLt _) (h.2 a)⟩ : (Rows 1024).Idx)
    = ix3 b n ⟨k.val, by omega⟩ := by
  funext a
  refine Fin.ext (Nat.zero_add _ |>.trans ?_)
  match a with
  | ⟨0, _⟩ => rfl
  | ⟨1, _⟩ => rfl
  | ⟨2, _⟩ => rfl

include hK in
/-- The values of a top-k. -/
theorem value_apply (b : Fin 8) (n : Fin 4096) (k : Fin K) :
    (Host.topK (Rows K) 2 (FloatOps.cmpfTotal .gt) x h).1 (ix3 b n k)
      = x (ix3 b n (place (fun s => x (ix3 b n s)) ⟨k.val, by omega⟩)) := by
  unfold Host.topK extractStridedSlice Host.sort2
  simp only [cut_apply hK h]
  rw [dif_pos (show 2 < (Rows 1024).rank from by decide)]
  refine (congrArg x (along_apply b n _ _)).trans ?_
  refine congrArg (fun s => x (ix3 b n s)) ?_
  unfold place before
  refine congrFun (congrArg sortedFrom ?_) _
  funext s s'
  exact congrArg₂ (fun l r => FloatOps.cmpfTotal .gt (x l) (x r) == 1#1) (along_apply b n _ s) (along_apply b n _ s')

include hK in
/-- The places of a top-k, as words. -/
theorem place_apply (b : Fin 8) (n : Fin 4096) (k : Fin K) :
    (Host.topK (Rows K) 2 (FloatOps.cmpfTotal .gt) x h).2 (ix3 b n k)
      = BitVec.ofNat 32 (place (fun s => x (ix3 b n s)) ⟨k.val, by omega⟩).val := by
  unfold Host.topK extractStridedSlice Host.sort2
  simp only [cut_apply hK h]
  rw [dif_pos (show 2 < (Rows 1024).rank from by decide)]
  simp only [show 2 < (Rows 1024).rank from by decide, dif_pos]
  refine (congrArg (iotaInDim (Rows 1024) 32 2) (along_apply b n _ _)).trans ?_
  refine congrArg (fun s : Fin 1024 => BitVec.ofNat 32 s.val) ?_
  unfold place before
  refine congrFun (congrArg sortedFrom ?_) _
  funext s s'
  exact congrArg₂ (fun l r => FloatOps.cmpfTotal .gt (x l) (x r) == 1#1) (along_apply b n _ s) (along_apply b n _ s')

end Cert.Proof.Order

end
-- ==== Proof.Nearest.lean ====
/- The first layer as the reference computes it: from the three source points nearest to a query. -/
module

public import proofs.«01_k».proof.Proof.Net
public import proofs.«01_k».proof.Proof.Order

@[expose] public section

noncomputable section

namespace Cert.Proof.Net

open Idealize.ShloMosaic

variable (A : Args)

/-- A query's negated distances to the source points. -/
def closeness (b : Fin 8) (n : Fin 4096) (s : Fin 1024) : EReal := -distance A b n s

/-- The place among the source points of the `k`-th nearest to query `n`. -/
def near (b : Fin 8) (n : Fin 4096) (k : Fin 3) : Fin 1024 := Order.place (closeness A b n) ⟨k.val, by omega⟩

/-- The reciprocal of a nearest distance. -/
def recip (b : Fin 8) (n : Fin 4096) (k : Fin 3) : EReal := Ideal.div 1 (distance A b n (near A b n k) + Spec.litDist)

/-- The first layer the reference computes. -/
def refFirst (b : Fin 8) (o : Fin 256) (n : Fin 4096) : EReal :=
  ∑ k : Fin 128, A.mlpW o ⟨k.val, by omega⟩ * A.points1 b k n
    + ∑ c : Fin 256, A.mlpW o ⟨128 + c.val, by omega⟩
      * (∑ k : Fin 3, A.points2 b c (near A b n k) * Ideal.div (recip A b n k) (∑ l : Fin 3, recip A b n l))
    + A.mlpB o

end Cert.Proof.Net

end
-- ==== Proof.RefFirst.lean ====
/- The reference's first layer, read at an index: the distances, the three least of every row of distances, the
   features taken at them, and their mix with the skip features. -/
module

public import proofs.«01_k».proof.Proof.RefRest
public import proofs.«01_k».proof.Proof.Nearest

@[expose] public section

set_option maxRecDepth 16384

noncomputable section

namespace Cert.Proof.RefFirst

open Idealize.ShloMosaic Idealize.ShloMosaic.TcCoe Cert.ReferenceIdeal Cert.ReferenceIdeal.Gen Cert.ReferenceIdeal.Value
open Cert.Proof.RefRest (argsOf)
open Cert.Proof.RefNorm (Arr)

variable (X : Valuation τ sig (Elt Ideal))

/-! ## The three nearest source points -/

/-- A negated distance. -/
theorem near_apply (b : Fin 8) (n : Fin 4096) (s : Fin 1024) :
    res_main_v13 X (ix3 b n s) = (-Net.distance (argsOf X) b n s : EReal) := by
  pointwise [res_main_v13]
  rfl

/-- A row of negated distances. -/
theorem row_eq (b : Fin 8) (n : Fin 4096) :
    (fun s => res_main_v13 X (ix3 b n s)) = Net.closeness (argsOf X) b n :=
  funext fun s => near_apply X b n s

theorem recip_apply (b : Fin 8) (n : Fin 4096) (k : Fin 3) : res_main_v18 X (ix3 b n k) = Net.recip (argsOf X) b n k := by
  have h : (Host.topK S8x4096x3 2 (FloatOps.cmpfTotal .gt) (res_main_v13 X) sliceFits_S8x4096x1024_S8x4096x3).1 (ix3 b n k)
      = (-Net.distance (argsOf X) b n (Net.near (argsOf X) b n k) : EReal) :=
    (Order.value_apply (by decide) (res_main_v13 X) _ b n k).trans ((near_apply X b n _).trans (by rw [row_eq]; rfl))
  pointwise [res_main_v18]
  rw [h, neg_neg]
  rfl

/-- The places, one after the other along a row, as words. -/
theorem word_apply (b : Fin 8) (o : Fin 256) (j : Fin 12288) :
    res_main_v24 X (ix3 b o j) = BitVec.ofNat 32 (Net.near (argsOf X) b ⟨j.val / 3, by omega⟩ ⟨j.val % 3, by omega⟩).val := by
  have h (n : Fin 4096) (k : Fin 3) :
      (Host.topK S8x4096x3 2 (FloatOps.cmpfTotal .gt) (res_main_v13 X) sliceFits_S8x4096x1024_S8x4096x3).2 (ix3 b n k)
        = BitVec.ofNat 32 (Net.near (argsOf X) b n k).val :=
    (Order.place_apply (by decide) (res_main_v13 X) _ b n k).trans (by rw [row_eq]; rfl)
  pointwise [res_main_v24]
  exact h _ _

/-- A place below 1024, as a word: not negative, and no more than 1023. -/
theorem word_signed (s : Fin 1024) : (BitVec.ofNat 32 s.val).toInt = s.val := by
  rw [BitVec.toInt_eq_toNat_of_lt (by rw [BitVec.toNat_ofNat]; omega), BitVec.toNat_ofNat]
  omega

theorem word_not_negative (s : Fin 1024) : IntOp.cmpi .slt (BitVec.ofNat 32 s.val) 0#32 = 0#1 := by
  have h : ¬((s.val : Int) < 0) := by omega
  simp [IntOp.cmpi, BitVec.slt, word_signed, h]
theorem word_low (s : Fin 1024) : IntOp.cmpi .sge (BitVec.ofNat 32 s.val) 0#32 = 1#1 := by
  simp [IntOp.cmpi, BitVec.sle, word_signed]
theorem word_high (s : Fin 1024) : IntOp.cmpi .sle (BitVec.ofNat 32 s.val) 1023#32 = 1#1 := by
  have h : (1023#32).toInt = 1023 := by decide
  have h' : (s.val : Int) ≤ 1023 := by omega
  simp [IntOp.cmpi, BitVec.sle, word_signed, h, h']

/-- No word is negative, so none is moved. -/
theorem fixed_apply (b : Fin 8) (o : Fin 256) (j : Fin 12288) :
    res_main_call0_v5 X (ix4 b o j 0) = BitVec.ofNat 32 (Net.near (argsOf X) b ⟨j.val / 3, by omega⟩ ⟨j.val % 3, by omega⟩).val := by
  pointwise [res_main_call0_v5]
  simp only [word_apply]
  rw [word_not_negative]
  rfl

/-! ## The features taken there -/

/-- The features of the nearest source points, one after the other along a row. -/
def taken : Arr S8x256x12288 :=
  select (Host.reduce IntOp.andi (andi (cmpi .sge (res_main_call0_v5 X) (broadcastInDim S8x256x12288x1 ![] bcast_S_S8x256x12288x1 (constantI S_ 32 0#32))) (cmpi .sle (res_main_call0_v5 X) (broadcastInDim S8x256x12288x1 ![0, 1, 2, 3] bcast_S1x1x1x1_S8x256x12288x1_0_1_2_3 (broadcastInDim S1x1x1x1 ![3] bcast_S1_S1x1x1x1_3 (constantI S1 32 1023#32))))) (constantI S_ 1 1#1) reducesTo_S8x256x12288x1_S8x256x12288_d3 h_S_) (Host.gather gather_S8x256x1024_S8x256x12288x1_S8x256x12288_n_2_01_01_2_3_111 (X (Proc.devRef .tc main_arg3)) (res_main_call0_v5 X)) (broadcastInDim S8x256x12288 ![] bcast_S_S8x256x12288 (constant S_ .f32 0x7FC00000#32))

/-- A conjunction of ones is one. -/
theorem all_ones {ι : Type} (l : List ι) (x : ι → BitVec 1) (hx : ∀ i, x i = 1#1) :
    l.foldl (fun r i => IntOp.andi r (x i)) 1#1 = 1#1 := by
  induction l with
  | nil => rfl
  | cons i l ih =>
    rw [List.foldl_cons, hx i]
    exact ih

theorem reduce_ones (x : IVec S8x256x12288x1 1) (hx : ∀ i, x i = 1#1) (y : S8x256x12288.Idx) :
    Host.reduce IntOp.andi x (constantI S_ 1 1#1) reducesTo_S8x256x12288x1_S8x256x12288_d3 h_S_ y = 1#1 :=
  all_ones _ (fun n => x (S8x256x12288x1.rowMajor.symm n)) fun _ => hx _

/-- An index of four coordinates, the last of extent one. -/
theorem index_eq (i : S8x256x12288x1.Idx) : i = ix4 (i 0) (i 1) (i 2) 0 := by
  funext a
  match a with
  | ⟨0, _⟩ => rfl
  | ⟨1, _⟩ => rfl
  | ⟨2, _⟩ => rfl
  | ⟨3, _⟩ => exact Subsingleton.elim (α := Fin 1) _ _

/-- The gather at an index reads the source at the place its word names. -/
theorem gather_apply (x : Arr S8x256x1024) (w : IVec S8x256x12288x1 32) (b : Fin 8) (o : Fin 256) (j : Fin 12288) (s : Fin 1024)
    (h : w (ix4 b o j 0) = BitVec.ofNat 32 s.val) :
    Host.gather gather_S8x256x1024_S8x256x12288x1_S8x256x12288_n_2_01_01_2_3_111 x w (ix3 b o j) = x (ix3 b o s) := by
  unfold Host.gather
  refine congrArg x ?_
  have hs : (w (ix4 b o j 0)).toInt.toNat = s.val := by rw [h, word_signed]; rfl
  set d := gather_S8x256x1024_S8x256x12288x1_S8x256x12288_n_2_01_01_2_3_111
  funext a
  refine Fin.ext ?_
  show d.start (ix3 b o j) w a + d.batchCoord (ix3 b o j) a + d.offCoord (ix3 b o j) a = _
  have hk (a : Fin 3) : a ∉ d.sKept := fun h => by
    have := (GatherDims.mem_sKept _ _).mp h
    revert this
    revert a
    decide
  rw [GatherDims.offCoord_eq_zero _ _ _ (hk a), Nat.add_zero]
  have ha : a = 0 ∨ a = 1 ∨ a = 2 := by
    revert a
    decide
  rcases ha with rfl | rfl | rfl
  · rw [GatherDims.start_batching _ _ _ _ (by decide), Nat.zero_add]
    rfl
  · rw [GatherDims.start_batching _ _ _ _ (by decide), Nat.zero_add]
    rfl
  · rw [GatherDims.batchCoord_eq_zero _ _ _ (by decide), Nat.add_zero]
    unfold GatherDims.start
    rw [dif_pos (by decide)]
    have hi : d.siIdx (ix3 b o j) ⟨List.idxOf (2 : Fin 3) d.startIndexMap, by decide⟩ = ix4 b o j 0 := by
      funext a
      refine Fin.ext ?_
      match a with
      | ⟨0, _⟩ => rfl
      | ⟨1, _⟩ => rfl
      | ⟨2, _⟩ => rfl
      | ⟨3, _⟩ => rfl
    refine (congrArg (fun i => min (w i).toInt.toNat 1023) hi).trans ?_
    show min (w (ix4 b o j 0)).toInt.toNat 1023 = s.val
    rw [hs]
    omega

theorem taken_apply (b : Fin 8) (o : Fin 256) (j : Fin 12288) :
    taken X (ix3 b o j) = (argsOf X).points2 b o (Net.near (argsOf X) b ⟨j.val / 3, by omega⟩ ⟨j.val % 3, by omega⟩) := by
  have hw (i : S8x256x12288x1.Idx) : ∃ t : Fin 1024, res_main_call0_v5 X i = BitVec.ofNat 32 t.val :=
    ⟨_, (congrArg (res_main_call0_v5 X) (index_eq i)).trans (fixed_apply X (i 0) (i 1) (i 2))⟩
  unfold taken
  show Scalar.select (Host.reduce IntOp.andi _ _ _ _ (ix3 b o j)) (Host.gather _ _ _ (ix3 b o j)) _ = _
  rw [reduce_ones _ fun i => ?_, gather_apply _ _ b o j _ (fixed_apply X b o j)]
  · rfl
  · obtain ⟨t, ht⟩ := hw i
    show IntOp.andi (IntOp.cmpi .sge (res_main_call0_v5 X i) 0#32) (IntOp.cmpi .sle (res_main_call0_v5 X i) 1023#32) = 1#1
    rw [ht, word_low, word_high]
    rfl

/-! ## The mix -/

/-- The mix of skip features `p` and taken features `T`, weighted by reciprocals `r`, with weights `w` and biases `c`. -/
def mix (p : Arr S8x128x4096) (T : Arr S8x256x12288) (r : Arr S8x4096x3) (w : Arr S256x384) (c : Arr S256) : Arr S8x8x32x4096 :=
  shapeCast _ (addf (transpose S8x256x4096 [0, 2, 1] (Host.dotGeneral dot_S8x384x4096_S256x384_S8x4096x256_1_1_02_0_n_n none (concatenate S8x384x4096 1 [⟨S8x128x4096, p⟩, ⟨S8x256x4096, (Host.reduceAdd (mulf (shapeCast _ T shapeCasts_S8x256x12288_S8x256x4096x3) (broadcastInDim S8x256x4096x3 ![0, 1, 2, 3] bcast_S8x1x4096x3_S8x256x4096x3_0_1_2_3 (broadcastInDim S8x1x4096x3 ![0, 2, 3] bcast_S8x4096x3_S8x1x4096x3_0_2_3 (Host.divf r (broadcastInDim S8x4096x3 ![0, 1, 2] bcast_S8x4096x1_S8x4096x3_0_1_2 (broadcastInDim S8x4096x1 ![0, 1] bcast_S8x4096_S8x4096x1_0_1 (Host.reduceAdd r (constant S_ .f32 0x00000000#32) reducesTo_S8x4096x3_S8x4096_d2 h_S_))))))) (constant S_ .f32 0x00000000#32) reducesTo_S8x256x4096x3_S8x256x4096_d3 h_S_)⟩] concatenates_S8x128x4096_S8x256x4096_S8x384x4096_d1) w) transposes_S8x4096x256_S8x256x4096_0_2_1) (broadcastInDim S8x256x4096 ![0, 1, 2] bcast_S1x256x1_S8x256x4096_0_1_2 (broadcastInDim S1x256x1 ![1] bcast_S256_S1x256x1_1 c))) shapeCasts_S8x256x4096_S8x8x32x4096

theorem mix_eq : res_main_v37 X = mix (X (Proc.devRef .tc main_arg1)) (taken X) (res_main_v18 X)
    (X (Proc.devRef .tc main_arg6)) (X (Proc.devRef .tc main_arg7)) := rfl

/-- The mix at an index. -/
theorem mix_apply (p : Arr S8x128x4096) (T : Arr S8x256x12288) (r : Arr S8x4096x3) (w : Arr S256x384) (c : Arr S256)
    (b g : Fin 8) (k : Fin 32) (n : Fin 4096) :
    mix p T r w c (ix4 b g k n)
      = (∑ x : Fin 128, w (ix2 (Spec.chan32 g k) ⟨x.val, by omega⟩) * p (ix3 b x n)
        + ∑ x : Fin 256, w (ix2 (Spec.chan32 g k) ⟨128 + x.val, by omega⟩)
          * (∑ y : Fin 3, T (ix3 b x ⟨n.val * 3 + y.val, by omega⟩) * Ideal.div (r (ix3 b n y)) (∑ z : Fin 3, r (ix3 b n z)))
        + c (ix1 (Spec.chan32 g k)) : EReal) := by
  pointwise [mix]
  refine congrArg₂ (fun u v : EReal => u + v + _) (Finset.sum_congr rfl fun _ _ => mul_comm _ _)
    (Finset.sum_congr rfl fun _ _ => mul_comm _ _)

/-- The first layer at an index. -/
theorem first_apply (b g : Fin 8) (k : Fin 32) (n : Fin 4096) :
    res_main_v37 X (ix4 b g k n) = Net.refFirst (argsOf X) b (Spec.chan32 g k) n := by
  have q (y : Fin 3) : (n.val * 3 + y.val) / 3 = n.val := by omega
  have r (y : Fin 3) : (n.val * 3 + y.val) % 3 = y.val := by omega
  rw [mix_eq, mix_apply]
  simp only [taken_apply, recip_apply, q, r]
  rfl

end Cert.Proof.RefFirst

end
-- ==== Proof.Finite.lean ====
/- Extended reals that are real numbers: what keeps them so. -/
module

public import proofs.«01_k».proof.Proof.Spec

@[expose] public section

noncomputable section

namespace Cert.Proof

open Idealize.ShloMosaic

/-- An extended real that is a real number. -/
def Finite (x : EReal) : Prop := ∃ r : ℝ, x = (r : EReal)

/-- The sum of real numbers, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

namespace Finite

theorem add {x y : EReal} : Finite x → Finite y → Finite (x + y) := by
  rintro ⟨r, rfl⟩ ⟨s, rfl⟩
  exact ⟨r + s, (EReal.coe_add r s).symm⟩

theorem sub {x y : EReal} : Finite x → Finite y → Finite (x - y) := by
  rintro ⟨r, rfl⟩ ⟨s, rfl⟩
  exact ⟨r - s, (EReal.coe_sub r s).symm⟩

theorem mul {x y : EReal} : Finite x → Finite y → Finite (x * y) := by
  rintro ⟨r, rfl⟩ ⟨s, rfl⟩
  exact ⟨r * s, (EReal.coe_mul r s).symm⟩

theorem sum {ι : Type} (s : Finset ι) (f : ι → EReal) (h : ∀ i, Finite (f i)) : Finite (∑ i ∈ s, f i) := by
  choose g hg using h
  exact ⟨∑ i ∈ s, g i, by rw [coe_sum]; exact Finset.sum_congr rfl fun i _ => hg i⟩

theorem act {x : EReal} (h : Finite x) : Finite (Spec.act x) := by
  obtain ⟨r, rfl⟩ := h
  exact mul ⟨r, rfl⟩ ⟨_, Ideal.logistic_coe r⟩

theorem linear {K : Nat} {w x : Fin K → EReal} {b : EReal} (hw : ∀ k, Finite (w k)) (hx : ∀ k, Finite (x k)) (hb : Finite b) :
    Finite (Spec.linear w x b) :=
  add (sum _ _ fun k => mul (hw k) (hx k)) hb

/-- A value whose magnitude is below the top is a real number. -/
theorem of_abs_lt {x : EReal} (h : ((x.abs : ENNReal) : EReal) < ⊤) : Finite x := by
  induction x with
  | bot => simp at h
  | top => simp at h
  | coe r => exact ⟨r, rfl⟩

end Finite

end Cert.Proof

end
-- ==== Proof.TopThree.lean ====
/- A row of distances whose three least values stand apart from each other and from the rest: masked minima find the
   third least, and the weighted sum over all source points is the weighted sum over the three nearest. -/
module

public import proofs.«01_k».proof.Proof.Consts
public import proofs.«01_k».proof.Proof.Finite

@[expose] public section

noncomputable section

namespace Cert.Proof.TopThree

open Idealize.ShloMosaic

/-- The least entry of a row is the value that is taken and that no entry is below. -/
theorem least_eq (d : Fin 1024 → EReal) (v : EReal) (i : Fin 1024) (hi : d i = v) (h : ∀ s, v ≤ d s) : Spec.least d = v := by
  unfold Spec.least
  rw [Consts.inf_eq]
  refine le_antisymm ?_ ?_
  · exact (Finset.fold_min_le v).2 (Or.inr ⟨i, Finset.mem_univ i, hi.le⟩)
  · exact (Finset.le_fold_min v).2 ⟨le_top, fun s _ => h s⟩

/-- The place of the `k`-th of the first three. -/
def one : Fin 1024 := ⟨0, by decide⟩
def two : Fin 1024 := ⟨1, by decide⟩
def three : Fin 1024 := ⟨2, by decide⟩
def four : Fin 1024 := ⟨3, by decide⟩

variable (d : Fin 1024 → EReal) (π : Fin 1024 → Fin 1024) (inj : Function.Injective π) (sur : Function.Surjective π)
  (mono : ∀ i j, i ≤ j → d (π i) ≤ d (π j)) (h1 : d (π one) < d (π two)) (h2 : d (π two) < d (π three))
  (h3 : d (π three) < d (π four))

section
include sur mono h1 h2 h3

/-- Masking the least entry leaves the second least. -/
theorem least_mask (top : ∀ s, d s < ⊤) :
    Spec.least d = d (π one) ∧ Spec.least (Spec.mask d) = d (π two) ∧ Spec.third d = d (π three) := by
  have a : Spec.least d = d (π one) := least_eq d _ (π one) rfl fun s => by
    obtain ⟨j, rfl⟩ := sur s
    exact mono _ _ (Fin.mk_le_of_le_val (Nat.zero_le _))
  have m (j : Fin 1024) : Spec.mask d (π j) = if two ≤ j then d (π j) else ⊤ := by
    unfold Spec.mask
    rw [a, Consts.inf_eq]
    by_cases hj : two ≤ j
    · rw [if_pos hj, if_pos (h1.trans_le (mono _ _ hj))]
    · have : j = one := Fin.ext (by have := Fin.lt_def.1 (not_le.1 hj); simp only [two, one] at this ⊢; omega)
      rw [if_neg hj, this, if_neg (lt_irrefl _)]
  have b : Spec.least (Spec.mask d) = d (π two) := least_eq _ _ (π two) (by rw [m, if_pos le_rfl]) fun s => by
    obtain ⟨j, rfl⟩ := sur s
    rw [m]
    split
    · next hj => exact mono _ _ hj
    · exact le_top
  refine ⟨a, b, ?_⟩
  have m2 (j : Fin 1024) : Spec.mask (Spec.mask d) (π j) = if three ≤ j then d (π j) else ⊤ := by
    unfold Spec.mask
    rw [show (fun s => if Spec.least d < d s then d s else Spec.litInf) = Spec.mask d from rfl, b, Consts.inf_eq]
    change (if d (π two) < Spec.mask d (π j) then Spec.mask d (π j) else ⊤) = _
    rw [m]
    by_cases hj : three ≤ j
    · have hj' : two ≤ j := le_trans (by decide) hj
      rw [if_pos hj', if_pos hj, if_pos (h2.trans_le (mono _ _ hj))]
    · rw [if_neg hj]
      by_cases hj' : two ≤ j
      · have : j = two := Fin.ext (by
          have := Fin.lt_def.1 (not_le.1 hj); have := Fin.le_def.1 hj'; simp only [two, three] at *; omega)
        rw [if_pos hj', this, if_neg (lt_irrefl _)]
      · rw [if_neg hj', if_pos (top _ |>.trans_le le_rfl)]
  exact least_eq _ _ (π three) (by rw [m2, if_pos le_rfl]) fun s => by
    obtain ⟨j, rfl⟩ := sur s
    rw [m2]
    split
    · next hj => exact mono _ _ hj
    · exact le_top

/-- The entries that are not above the third least are the first three. -/
theorem le_third (top : ∀ s, d s < ⊤) (j : Fin 1024) : d (π j) ≤ Spec.third d ↔ j.val < 3 := by
  rw [(least_mask d π sur mono h1 h2 h3 top).2.2]
  constructor
  · intro h
    by_contra hj
    have : four ≤ j := Fin.le_def.2 (by simp only [four]; omega)
    exact absurd (h3.trans_le (mono _ _ this)) (not_lt.2 h)
  · intro h
    exact mono _ _ (Fin.le_def.2 (by simp only [three]; omega))
end

/-- The place of the `k`-th nearest. -/
def low (k : Fin 3) : Fin 1024 := π ⟨k.val, by omega⟩

include inj sur in
/-- A sum whose terms vanish beyond the first three places is the sum over these. -/
theorem sum_low (f : Fin 1024 → EReal) (hf : ∀ j : Fin 1024, ¬ j.val < 3 → f (π j) = 0) : ∑ s, f s = ∑ k, f (low π k) := by
  classical
  have hl : Function.Injective (low π) := fun a b h => Fin.ext (by have := congrArg Fin.val (inj h); exact this)
  rw [← Finset.sum_image (s := Finset.univ) (g := low π) (f := f) fun a _ b _ h => hl h]
  refine (Finset.sum_subset (Finset.subset_univ _) fun s _ hs => ?_).symm
  obtain ⟨j, rfl⟩ := sur s
  refine hf j fun hj => hs (Finset.mem_image.2 ⟨⟨j.val, hj⟩, Finset.mem_univ _, rfl⟩)

include inj sur mono h1 h2 h3 in
/-- The interpolation over all source points is the interpolation over the three nearest. -/
theorem interpolate (pos : ∀ s, ∃ r : ℝ, 0 ≤ r ∧ d s = (r : EReal)) (p : Fin 1024 → EReal) :
    ∑ s, p s * Spec.weight d s
      = ∑ k, p (low π k) * Ideal.div (Ideal.div 1 (d (low π k) + Spec.litDist)) (∑ l, Ideal.div 1 (d (low π l) + Spec.litDist)) := by
  have top s : d s < ⊤ := by
    obtain ⟨r, _, h⟩ := pos s
    rw [h]
    exact EReal.coe_lt_top r
  have inv_low (k : Fin 3) : Spec.inv d (low π k) = Ideal.div 1 (d (low π k) + Spec.litDist) :=
    if_pos ((le_third d π sur mono h1 h2 h3 top _).2 k.isLt)
  have inv_high (j : Fin 1024) (hj : ¬ j.val < 3) : Spec.inv d (π j) = 0 :=
    if_neg fun h => hj ((le_third d π sur mono h1 h2 h3 top _).1 h)
  have hn : ∑ s, Spec.inv d s = ∑ l, Ideal.div 1 (d (low π l) + Spec.litDist) :=
    (sum_low π inj sur _ inv_high).trans (Finset.sum_congr rfl fun k _ => inv_low k)
  have hne : ∑ l : Fin 3, Ideal.div 1 (d (low π l) + Spec.litDist) ≠ 0 := by
    obtain ⟨e, he, hl⟩ := Consts.dist_pos
    choose r hr hd using pos
    have q (l : Fin 3) : Ideal.div 1 (d (low π l) + Spec.litDist) = ((1 / (r (low π l) + e) : ℝ) : EReal) := by
      rw [hd, hl, ← EReal.coe_add, Ideal.div_coe (by have := hr (low π l); positivity), one_mul]
    simp only [q]
    rw [← coe_sum]
    have : 0 < ∑ l : Fin 3, 1 / (r (low π l) + e) :=
      Finset.sum_pos (fun l _ => by have := hr (low π l); positivity) Finset.univ_nonempty
    exact_mod_cast this.ne'
  rw [sum_low π inj sur _ fun j hj => ?_]
  · refine Finset.sum_congr rfl fun k _ => ?_
    unfold Spec.weight
    rw [hn, inv_low]
  · unfold Spec.weight
    rw [inv_high j hj, hn, Ideal.div, if_neg hne, zero_mul, mul_zero]

end Cert.Proof.TopThree

end
-- ==== Proof.GroupNorm.lean ====
/- On real entries the kernel's group normalisation and the reference's are the same function: the mean of the squares
   less the squared mean is the mean of the squared deviations, and multiplying by the inverse of a square root is
   dividing by the square root. -/
module

public import proofs.«01_k».proof.Proof.Net
public import proofs.«01_k».proof.Proof.Consts
public import proofs.«01_k».proof.Proof.Finite

@[expose] public section

noncomputable section

namespace Cert.Proof.GroupNorm

open Idealize.ShloMosaic

/-- The queries of the 16 tiles are all queries. -/
theorem sum_tiles (f : Fin 4096 → EReal) : ∑ t : Fin 16, ∑ n : Fin 256, f (Spec.query t n) = ∑ n, f n := by
  rw [← Fintype.sum_prod_type' fun t n => f (Spec.query t n)]
  refine Fintype.sum_equiv (finProdFinEquiv (m := 16) (n := 256)) _ _ fun p => congrArg f (Fin.ext ?_)
  simp only [Spec.query, finProdFinEquiv_apply_val]
  omega

variable {c C : Nat} (chan : Fin 8 → Fin c → Fin C) (grp : Fin C → Fin 8) (cnt : EReal) (x : Fin C → Fin 4096 → EReal)

/-- The tiles' sums add up to the group's sum. -/
theorem sum_tileSum (g : Fin 8) : ∑ t, Net.tileSum chan x g t = Net.groupSum chan x g := by
  unfold Net.tileSum Net.groupSum
  rw [Finset.sum_comm]
  exact Finset.sum_congr rfl fun k _ => sum_tiles fun n => x (chan g k) n

/-- The mean from the tiles is the group's mean. -/
theorem tileMean_eq (g : Fin 8) : Net.tileMean chan cnt x g = Net.groupMean chan cnt x g := by
  unfold Net.tileMean Spec.mean Net.groupMean
  rw [sum_tileSum]

/-- The mean of squared deviations from the mean is the mean of squares less the squared mean. -/
theorem deviations {ι κ : Type} [Fintype ι] [Fintype κ] (f : ι → κ → ℝ) (N : ℝ) (hN : N ≠ 0)
    (hc : (Fintype.card ι * Fintype.card κ : ℝ) = N) :
    (∑ i, ∑ k, (f i k - (∑ i, ∑ k, f i k) * (1 / N)) * (f i k - (∑ i, ∑ k, f i k) * (1 / N))) * (1 / N)
      = (∑ i, ∑ k, f i k * f i k) * (1 / N) - (∑ i, ∑ k, f i k) * (1 / N) * ((∑ i, ∑ k, f i k) * (1 / N)) := by
  set S := ∑ i, ∑ k, f i k with hS
  set m := S * (1 / N) with hm
  have e : ∑ i, ∑ k, (f i k - m) * (f i k - m) = (∑ i, ∑ k, f i k * f i k) - 2 * m * S + N * (m * m) := by
    have t i k : (f i k - m) * (f i k - m) = f i k * f i k - 2 * m * f i k + m * m := by ring
    simp only [t, Finset.sum_add_distrib, Finset.sum_sub_distrib, ← Finset.mul_sum, Finset.sum_const, Finset.card_univ,
      nsmul_eq_mul]
    rw [← hc]
    ring
  have hs : S = N * m := by rw [hm]; field_simp
  rw [e, hs]
  field_simp
  ring

section
variable (N : ℝ) (hN : 0 < N) (hcnt : cnt = (N : EReal)) (hc : ((c * 4096 : ℕ) : ℝ) = N) (hx : ∀ o n, Finite (x o n))
include hN hcnt hc hx

/-- A group's mean and its variance are real numbers, the variance is not negative, and it is the mean of the squares
    less the squared mean. -/
theorem statistics (g : Fin 8) : ∃ m v : ℝ, 0 ≤ v ∧ Net.groupMean chan cnt x g = (m : EReal) ∧ Net.groupVar chan cnt x g = (v : EReal)
    ∧ Ideal.div (Net.groupSum chan (fun o n => x o n * x o n) g) cnt - Net.groupMean chan cnt x g * Net.groupMean chan cnt x g
      = (v : EReal) := by
  choose r hr using hx
  obtain rfl : x = fun o n => ((r o n : ℝ) : EReal) := funext₂ hr
  subst hcnt
  let S : ℝ := ∑ k : Fin c, ∑ n : Fin 4096, r (chan g k) n
  obtain ⟨m, hd⟩ : ∃ m : ℝ, m = S * (1 / N) := ⟨_, rfl⟩
  have hm : Net.groupMean chan (N : EReal) (fun o n => ((r o n : ℝ) : EReal)) g = (m : EReal) := by
    unfold Net.groupMean Net.groupSum
    rw [hd, Ideal.div_coe hN.ne', EReal.coe_mul]
    simp only [S, coe_sum]
  obtain ⟨v, hw⟩ : ∃ v : ℝ, v = (∑ k : Fin c, ∑ n : Fin 4096, (r (chan g k) n - m) * (r (chan g k) n - m)) * (1 / N) := ⟨_, rfl⟩
  have hv : Net.groupVar chan (N : EReal) (fun o n => ((r o n : ℝ) : EReal)) g = (v : EReal) := by
    unfold Net.groupVar Net.groupSum
    rw [hw, Ideal.div_coe hN.ne', hm, EReal.coe_mul]
    simp only [coe_sum, EReal.coe_mul, EReal.coe_sub]
  refine ⟨m, v, ?_, hm, hv, ?_⟩
  · rw [hw]
    exact mul_nonneg (Finset.sum_nonneg fun _ _ => Finset.sum_nonneg fun _ _ => mul_self_nonneg _) (by positivity)
  · have d := deviations (fun (k : Fin c) (n : Fin 4096) => r (chan g k) n) N hN.ne' (by
      rw [Fintype.card_fin, Fintype.card_fin, ← hc]; push_cast; rfl)
    have d' : v = (∑ k : Fin c, ∑ n : Fin 4096, r (chan g k) n * r (chan g k) n) * (1 / N) - m * m := by
      rw [hw, hd]
      exact d
    rw [hm, d', Ideal.div_coe hN.ne', EReal.coe_sub, EReal.coe_mul, EReal.coe_mul m m]
    unfold Net.groupSum
    simp only [coe_sum, EReal.coe_mul]

/-- The two normalisations are the same function. -/
theorem tileNorm_eq : Net.tileNorm chan grp cnt x = Net.groupNorm chan grp cnt x := by
  funext ga be o n
  obtain ⟨m, v, hv, em, ev, eq⟩ := statistics chan cnt x N hN hcnt hc hx (grp o)
  obtain ⟨e, he, hl⟩ := Consts.var_pos
  unfold Net.tileNorm Net.groupNorm Spec.norm
  rw [tileMean_eq, ev]
  have hp : 0 < v + e := by positivity
  have hi : Net.tileInv chan cnt x (grp o) = (((Real.sqrt (v + e))⁻¹ : ℝ) : EReal) := by
    unfold Net.tileInv Spec.invDev
    rw [sum_tileSum]
    change Ideal.rsqrt (_ - Net.tileMean chan cnt x (grp o) * Net.tileMean chan cnt x (grp o) + _) = _
    rw [tileMean_eq, eq, hl, ← EReal.coe_add, Ideal.rsqrt_coe, if_neg hp.le.not_gt, if_neg hp.ne']
  have hq : Real.sqrt (v + e) ≠ 0 := (Real.sqrt_pos.2 hp).ne'
  rw [hi, hl, ← EReal.coe_add, Ideal.sqrt_coe, if_neg hp.le.not_gt, Ideal.div_coe hq, one_div]

/-- A normalisation with real gains and offsets is real. -/
theorem finite (ga be : Fin C → EReal) (hga : ∀ o, Finite (ga o)) (hbe : ∀ o, Finite (be o)) (o : Fin C) (n : Fin 4096) :
    Finite (Net.groupNorm chan grp cnt x ga be o n) := by
  obtain ⟨m, v, hv, em, ev, _⟩ := statistics chan cnt x N hN hcnt hc hx (grp o)
  obtain ⟨e, he, hl⟩ := Consts.var_pos
  unfold Net.groupNorm
  have hp : 0 < v + e := by positivity
  have hq : Real.sqrt (v + e) ≠ 0 := (Real.sqrt_pos.2 hp).ne'
  rw [ev, em, hl, ← EReal.coe_add, Ideal.sqrt_coe, if_neg hp.le.not_gt, Ideal.div_coe hq]
  exact (((hx o n).sub ⟨m, rfl⟩).mul ⟨_, rfl⟩ |>.mul (hga o)).add (hbe o)
end

end Cert.Proof.GroupNorm

end
-- ==== Proof.Equation.lean ====
/- On real arguments, with every query's three nearest source points apart from each other and from the rest, the
   kernel's result is the reference's. -/
module

public import proofs.«01_k».proof.Proof.Nearest
public import proofs.«01_k».proof.Proof.TopThree
public import proofs.«01_k».proof.Proof.GroupNorm

@[expose] public section

noncomputable section

namespace Cert.Proof.Equation

open Idealize.ShloMosaic

attribute [local irreducible] Order.place

/-- The arguments the first three layers are made of are real, and every query's four greatest negated distances fall
    strictly. -/
structure Good (A : Args) : Prop where
  xyz1 : ∀ b i n, Finite (A.xyz1 b i n)
  points1 : ∀ b k n, Finite (A.points1 b k n)
  xyz2 : ∀ b i s, Finite (A.xyz2 b i s)
  points2 : ∀ b k s, Finite (A.points2 b k s)
  mlpW : ∀ o k, Finite (A.mlpW o k)
  mlpB : ∀ o, Finite (A.mlpB o)
  gn0g : ∀ o, Finite (A.gn0g o)
  gn0b : ∀ o, Finite (A.gn0b o)
  conv1W : ∀ e o, Finite (A.conv1W e o)
  conv1B : ∀ e, Finite (A.conv1B e)
  gn1g : ∀ e, Finite (A.gn1g e)
  gn1b : ∀ e, Finite (A.gn1b e)
  conv2W : ∀ o e, Finite (A.conv2W o e)
  conv2B : ∀ o, Finite (A.conv2B o)
  untied : ∀ b n (k : Fin 3), Net.closeness A b n (Order.place (Net.closeness A b n) ⟨k.val + 1, by omega⟩)
    < Net.closeness A b n (Order.place (Net.closeness A b n) ⟨k.val, by omega⟩)

/-- A distance of real points is a real number that is not negative: a sum of squares. -/
theorem dist_nonneg (a c : Fin 3 → EReal) (ha : ∀ i, Finite (a i)) (hc : ∀ i, Finite (c i)) :
    ∃ r : ℝ, 0 ≤ r ∧ Spec.dist a c (Spec.lenSq a) (Spec.lenSq c) = (r : EReal) := by
  choose f hf using ha
  choose g hg using hc
  obtain rfl : a = fun i => (f i : EReal) := funext hf
  obtain rfl : c = fun i => (g i : EReal) := funext hg
  refine ⟨∑ i, (f i - g i) * (f i - g i), Finset.sum_nonneg fun i _ => mul_self_nonneg _, ?_⟩
  have e : ∑ i, (f i - g i) * (f i - g i) = -2 * ∑ i, f i * g i + ∑ i, f i * f i + ∑ i, g i * g i := by
    have t i : (f i - g i) * (f i - g i) = -2 * (f i * g i) + f i * f i + g i * g i := by ring
    simp only [t, Finset.sum_add_distrib, ← Finset.mul_sum]
  rw [e, EReal.coe_add, EReal.coe_add, EReal.coe_mul, coe_sum, coe_sum, coe_sum]
  unfold Spec.dist Spec.lenSq
  rw [Consts.negTwo_eq]
  simp only [EReal.coe_mul]

variable {A : Args} (h : Good A)
include h

theorem distance_nonneg (b : Fin 8) (n : Fin 4096) (s : Fin 1024) : ∃ r : ℝ, 0 ≤ r ∧ Net.distance A b n s = (r : EReal) :=
  dist_nonneg _ _ (fun i => h.xyz1 b i n) fun i => h.xyz2 b i s

/-- The distances rise strictly along the first four places. -/
theorem untied (b : Fin 8) (n : Fin 4096) (k : Fin 3) :
    Net.distance A b n (Order.place (Net.closeness A b n) ⟨k.val, by omega⟩)
      < Net.distance A b n (Order.place (Net.closeness A b n) ⟨k.val + 1, by omega⟩) :=
  EReal.neg_lt_neg_iff.1 (h.untied b n k)

omit h in
/-- The distances rise along the places. -/
theorem rising (b : Fin 8) (n : Fin 4096) (i j : Fin 1024) (hij : i ≤ j) :
    Net.distance A b n (Order.place (Net.closeness A b n) i) ≤ Net.distance A b n (Order.place (Net.closeness A b n) j) :=
  EReal.neg_le_neg_iff.1 (Order.place_anti (Net.closeness A b n) i j hij)

/-- The interpolation over all source points is the one over the three nearest. -/
theorem interpolate (b : Fin 8) (n : Fin 4096) (p : Fin 1024 → EReal) :
    ∑ s, p s * Spec.weight (Net.distance A b n) s
      = ∑ k : Fin 3, p (Net.near A b n k) * Ideal.div (Net.recip A b n k) (∑ l : Fin 3, Net.recip A b n l) :=
  TopThree.interpolate (Net.distance A b n) (Order.place (Net.closeness A b n)) (Order.place_injective _)
    (Order.place_surjective _) (rising b n) (untied h b n ⟨0, by decide⟩) (untied h b n ⟨1, by decide⟩)
    (untied h b n ⟨2, by decide⟩) (distance_nonneg h b n) p

/-- The two first layers are the same. -/
theorem first_eq (b : Fin 8) : Net.first A b = Net.refFirst A b := by
  funext o n
  unfold Net.first Spec.feat Net.refFirst
  refine congrArg (fun u : EReal => _ + u + _) (Finset.sum_congr rfl fun c _ => ?_)
  exact congrArg (_ * ·) (interpolate h b n (fun s => A.points2 b c s))

/-- The first layer is real. -/
theorem first_finite (b : Fin 8) (o : Fin 256) (n : Fin 4096) : Finite (Net.first A b o n) := by
  rw [first_eq h]
  have hr (k : Fin 3) : ∃ r : ℝ, 0 < r ∧ Net.recip A b n k = (r : EReal) := by
    obtain ⟨e, he, hl⟩ := Consts.dist_pos
    obtain ⟨r, hr, hd⟩ := distance_nonneg h b n (Net.near A b n k)
    have hp : 0 < r + e := by positivity
    exact ⟨1 / (r + e), by positivity, by
      unfold Net.recip
      rw [hd, hl, ← EReal.coe_add, Ideal.div_coe hp.ne', one_mul]⟩
  choose r hp hr using hr
  have hs : ∑ l : Fin 3, Net.recip A b n l = ((∑ l : Fin 3, r l : ℝ) : EReal) := by
    rw [coe_sum]
    exact Finset.sum_congr rfl fun l _ => hr l
  have hn : (∑ l : Fin 3, r l) ≠ 0 := (Finset.sum_pos (fun l _ => hp l) Finset.univ_nonempty).ne'
  unfold Net.refFirst
  refine ((Finite.sum _ _ fun k => (h.mlpW _ _).mul (h.points1 _ _ _)).add
    (Finite.sum _ _ fun c => (h.mlpW _ _).mul (Finite.sum _ _ fun k => (h.points2 _ _ _).mul ?_))).add (h.mlpB _)
  rw [hs, hr, Ideal.div_coe hn]
  exact Finite.mul ⟨_, rfl⟩ ⟨_, rfl⟩

/-! ## The normalisations, on real entries -/

omit h in
theorem norm32_eq (x : Fin 256 → Fin 4096 → EReal) (hx : ∀ o n, Finite (x o n)) : Net.tileNorm32 x = Net.groupNorm32 x :=
  GroupNorm.tileNorm_eq _ _ _ x 131072 (by norm_num) Consts.count32_eq (by norm_num) hx

omit h in
theorem norm128_eq (x : Fin 1024 → Fin 4096 → EReal) (hx : ∀ o n, Finite (x o n)) : Net.tileNorm128 x = Net.groupNorm128 x :=
  GroupNorm.tileNorm_eq _ _ _ x 524288 (by norm_num) Consts.count128_eq (by norm_num) hx

omit h in
theorem norm32_finite (x : Fin 256 → Fin 4096 → EReal) (hx : ∀ o n, Finite (x o n)) (ga be : Fin 256 → EReal)
    (hga : ∀ o, Finite (ga o)) (hbe : ∀ o, Finite (be o)) (o : Fin 256) (n : Fin 4096) : Finite (Net.groupNorm32 x ga be o n) :=
  GroupNorm.finite _ _ _ x 131072 (by norm_num) Consts.count32_eq (by norm_num) hx ga be hga hbe o n

omit h in
theorem norm128_finite (x : Fin 1024 → Fin 4096 → EReal) (hx : ∀ o n, Finite (x o n)) (ga be : Fin 1024 → EReal)
    (hga : ∀ o, Finite (ga o)) (hbe : ∀ o, Finite (be o)) (o : Fin 1024) (n : Fin 4096) : Finite (Net.groupNorm128 x ga be o n) :=
  GroupNorm.finite _ _ _ x 524288 (by norm_num) Consts.count128_eq (by norm_num) hx ga be hga hbe o n

/-! ## The layers -/

section
variable (x : Fin 256 → Fin 4096 → EReal) (hx : ∀ o n, Finite (x o n))
include hx

omit h in
theorem skip_eq : Net.skip A Net.tileNorm32 x = Net.skip A Net.groupNorm32 x := by
  unfold Net.skip
  rw [norm32_eq x hx]

theorem skip_finite (o : Fin 256) (n : Fin 4096) : Finite (Net.skip A Net.groupNorm32 x o n) :=
  (norm32_finite x hx _ _ h.gn0g h.gn0b o n).act

omit h in
theorem second_eq : Net.second A Net.tileNorm32 x = Net.second A Net.groupNorm32 x := by
  unfold Net.second
  rw [skip_eq x hx]

theorem second_finite (e : Fin 1024) (n : Fin 4096) : Finite (Net.second A Net.groupNorm32 x e n) :=
  Finite.linear (h.conv1W e) (fun o => skip_finite h x hx o n) (h.conv1B e)

theorem third_eq : Net.third A Net.tileNorm32 Net.tileNorm128 x = Net.third A Net.groupNorm32 Net.groupNorm128 x := by
  unfold Net.third
  rw [second_eq x hx, norm128_eq _ (second_finite h x hx)]

theorem third_finite (o : Fin 256) (n : Fin 4096) : Finite (Net.third A Net.groupNorm32 Net.groupNorm128 x o n) :=
  Finite.linear (h.conv2W o)
    (fun e => (norm128_finite _ (second_finite h x hx) _ _ h.gn1g h.gn1b e n).act) (h.conv2B o)
end

/-- The kernel's result is the reference's. -/
theorem kernel_eq (b : Fin 8) (o : Fin 256) (n : Fin 4096) : Net.kernel A b o n = Net.refRest A (Net.refFirst A b) b o n := by
  have hx := first_finite h b
  unfold Net.kernel Net.refRest Net.rest
  rw [third_eq h _ hx, skip_eq _ hx, norm32_eq _ (third_finite h _ hx), first_eq h]

end Cert.Proof.Equation

end
-- ==== Proof.Pre.lean ====
/- What the precondition says: the arrays it compares with infinity are real, and every query's four greatest negated
   distances fall strictly. -/
module

public import proofs.«01_k».proof.Pre_finite_and_untied
public import proofs.«01_k».proof.Defs
public import proofs.«01_k».proof.Proof.Equation
public import proofs.«01_k».proof.Proof.KernelValue

@[expose] public section

set_option maxRecDepth 16384

noncomputable section

namespace Cert.Proof.Pre

open Idealize.ShloMosaic Cert.Pre_finite_and_untied

/-- The side conditions of the precondition's operations. -/
instance facts : Facts where
  bcast_S_S8x4096x1024 := by decide
  reducesTo_S8x3x4096_S8x4096_d1 := by decide
  h_S_ := by decide
  bcast_S8x4096_S8x4096x1_0_1 := by decide
  bcast_S8x4096x1_S8x4096x1024_0_1_2 := by decide
  reducesTo_S8x3x1024_S8x1024_d1 := by decide
  bcast_S8x1024_S8x1x1024_0_2 := by decide
  bcast_S8x1x1024_S8x4096x1024_0_1_2 := by decide
  sliceFits_S8x4096x1024_S8x4096x4 := by decide
  slices_S8x4096x4_S8x4096x3_0_0_0 := by decide
  slices_S8x4096x4_S8x4096x3_0_0_1 := by decide
  bcast_S_S8x3x4096 := by decide
  bcast_S_S8x128x4096 := by decide
  bcast_S_S8x3x1024 := by decide
  bcast_S_S8x256x1024 := by decide
  bcast_S_S256x384 := by decide
  bcast_S_S256 := by decide
  bcast_S_S1024x256 := by decide
  bcast_S_S1024 := by decide
  bcast_S_S256x1024 := by decide
  dot_S8x3x4096_S8x3x1024_S8x4096x1024_1_1_2_2_0_0_wf := by decide

/-- An array whose magnitudes are all below infinity has real entries. -/
theorem finite_of {s : Shape} (a : FVec Ideal s .f32) (hb : S_.BroadcastsInDim s (![] : Fin 0 → Fin s.rank))
    (h : cmpf .olt (Host.absf a) (broadcastInDim s ![] hb (constant S_ .f32 0x7F800000#32)) = fun _ => 1#1) (i : s.Idx) :
    Finite (a i) := by
  have e : BitVec.ofBool (decide (max (a i : EReal) (-(a i : EReal)) < Spec.litInf)) = 1#1 := congrFun h i
  rw [Consts.inf_eq] at e
  have e' : max (a i : EReal) (-(a i : EReal)) < ⊤ := by
    by_contra hn
    rw [decide_eq_false hn] at e
    exact absurd e (by decide)
  generalize (a i : EReal) = x at e'
  induction x using EReal.rec with
  | bot => simp at e'
  | top => simp at e'
  | coe r => exact ⟨r, rfl⟩

/-- The negated distances. -/
def negDist (x : FVec Ideal S8x3x4096 .f32) (y : FVec Ideal S8x3x1024 .f32) : FVec Ideal S8x4096x1024 .f32 :=
  Host.negf (addf (addf (mulf (broadcastInDim S8x4096x1024 ![] facts.bcast_S_S8x4096x1024 (constant S_ .f32 0xC0000000#32))
      (Host.dotGeneral dot_S8x3x4096_S8x3x1024_S8x4096x1024_1_1_2_2_0_0 none x y))
    (broadcastInDim S8x4096x1024 ![0, 1, 2] facts.bcast_S8x4096x1_S8x4096x1024_0_1_2
      (broadcastInDim S8x4096x1 ![0, 1] facts.bcast_S8x4096_S8x4096x1_0_1
        (Host.reduceAdd (mulf x x) (constant S_ .f32 0x00000000#32) facts.reducesTo_S8x3x4096_S8x4096_d1 facts.h_S_))))
    (broadcastInDim S8x4096x1024 ![0, 1, 2] facts.bcast_S8x1x1024_S8x4096x1024_0_1_2
      (broadcastInDim S8x1x1024 ![0, 2] facts.bcast_S8x1024_S8x1x1024_0_2
        (Host.reduceAdd (mulf y y) (constant S_ .f32 0x00000000#32) facts.reducesTo_S8x3x1024_S8x1024_d1 facts.h_S_))))

/-- The four greatest negated distances of every query. -/
def top (x : FVec Ideal S8x3x4096 .f32) (y : FVec Ideal S8x3x1024 .f32) : FVec Ideal S8x4096x4 .f32 :=
  (Host.topK S8x4096x4 2 (FloatOps.cmpfTotal .gt) (negDist x y) facts.sliceFits_S8x4096x1024_S8x4096x4).1

theorem negDist_apply (x : FVec Ideal S8x3x4096 .f32) (y : FVec Ideal S8x3x1024 .f32) (b : Fin 8) (n : Fin 4096) (s : Fin 1024) :
    negDist x y (ix3 b n s) = (-Spec.dist (fun i => x (ix3 b i n)) (fun i => y (ix3 b i s)) (Spec.lenSq fun i => x (ix3 b i n))
      (Spec.lenSq fun i => y (ix3 b i s)) : EReal) := by
  pointwise [negDist]
  rfl

/-- Where the comparison of the first three of the four with the last three is one, the four fall strictly. -/
theorem strict_of (x : FVec Ideal S8x3x4096 .f32) (y : FVec Ideal S8x3x1024 .f32)
    (h : cmpf .ogt (extractStridedSlice S8x4096x3 ![0, 0, 0] (top x y) facts.slices_S8x4096x4_S8x4096x3_0_0_0)
      (extractStridedSlice S8x4096x3 ![0, 0, 1] (top x y) facts.slices_S8x4096x4_S8x4096x3_0_0_1) = fun _ => 1#1)
    (b : Fin 8) (n : Fin 4096) (k : Fin 3) :
    (negDist x y (ix3 b n (Order.place (fun s => negDist x y (ix3 b n s)) ⟨k.val + 1, by omega⟩)) : EReal)
      < negDist x y (ix3 b n (Order.place (fun s => negDist x y (ix3 b n s)) ⟨k.val, by omega⟩)) := by
  have v (j : Fin 4) : top x y (ix3 b n j) = negDist x y (ix3 b n (Order.place (fun s => negDist x y (ix3 b n s)) ⟨j.val, by omega⟩)) :=
    Order.value_apply (by decide) (negDist x y) _ b n j
  have e := congrFun h (ix3 b n k)
  pointwise at e
  have e' : (top x y (ix3 b n ⟨1 + k.val, by omega⟩) : EReal) < top x y (ix3 b n ⟨k.val, by omega⟩) := by
    by_contra hn
    rw [decide_eq_false hn] at e
    exact absurd e (by decide)
  rw [v, v] at e'
  have s1 : (⟨1 + k.val, by omega⟩ : Fin 1024) = ⟨k.val + 1, by omega⟩ := Fin.ext (Nat.add_comm ..)
  exact s1 ▸ e'

/-- The arguments of a launch that the precondition admits are good ones. -/
theorem good (m : (ℓ : Loc Cert.KernelIdeal.nD Cert.KernelIdeal.τ Cert.KernelIdeal.sig) → Buf (Elt Ideal) ℓ)
    (h : Cert.Pre_KernelIdeal_finite_and_untied m) (c : Dev Cert.KernelIdeal.nD) : Equation.Good (KernelValue.argsOf m c) := by
  obtain ⟨h0, h1, h2, h3, h4, h5, h6, h7, h8, h9, h10, h11, h12, h13, h14⟩ := h c
  exact {
    xyz1 := fun b i n => finite_of _ _ h1 (ix3 b i n)
    points1 := fun b i n => finite_of _ _ h2 (ix3 b i n)
    xyz2 := fun b i n => finite_of _ _ h3 (ix3 b i n)
    points2 := fun b i n => finite_of _ _ h4 (ix3 b i n)
    mlpW := fun o k => finite_of _ _ h5 (ix2 o k)
    mlpB := fun o => finite_of _ _ h6 (ix1 o)
    gn0g := fun o => finite_of _ _ h7 (ix1 o)
    gn0b := fun o => finite_of _ _ h8 (ix1 o)
    conv1W := fun o k => finite_of _ _ h9 (ix2 o k)
    conv1B := fun o => finite_of _ _ h10 (ix1 o)
    gn1g := fun o => finite_of _ _ h11 (ix1 o)
    gn1b := fun o => finite_of _ _ h12 (ix1 o)
    conv2W := fun o k => finite_of _ _ h13 (ix2 o k)
    conv2B := fun o => finite_of _ _ h14 (ix1 o)
    untied := fun b n k => by
      have u := strict_of _ _ h0 b n k
      simp only [negDist_apply] at u
      exact u }

end Cert.Proof.Pre

end
-- ==== Proof.lean ====
/- The claims about the kernel: the three programs' frames, that the numeric kernel and the ideal one are one text, and that
   on arguments the precondition admits the kernel over the extended reals computes what the reference computes. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Claim
public import proofs.«01_k».proof.Proof.KernelRun
public import proofs.«01_k».proof.Proof.RefFirst
public import proofs.«01_k».proof.Proof.RefRest
public import proofs.«01_k».proof.Proof.Pre

@[expose] public section

set_option maxRecDepth 16384

noncomputable section

namespace Cert.Proof

open Idealize.ShloMosaic Idealize.SL.Sem

/-- The reference leaves its arguments and the counters. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run m ρ)

/-- The reference's result, from arguments the kernel's launch has and the precondition admits, is the kernel's. -/
theorem reference_result (A : Args) (hA : Equation.Good A) (X : Valuation Cert.ReferenceIdeal.τ Cert.ReferenceIdeal.sig (Elt Ideal))
    (hX : RefRest.argsOf X = A) :
    RefRest.result X = fun i : Cert.ReferenceIdeal.S8x256x4096.Idx => Net.kernel A (i 0) (i 1) (i 2) := by
  subst hX
  have at3 (b : Fin 8) (o : Fin 256) (n : Fin 4096) : RefRest.result X (ix3 b o n) = Net.kernel (RefRest.argsOf X) b o n :=
    (RefRest.result_apply X (Net.refFirst (RefRest.argsOf X)) (RefFirst.first_apply X) b o n).trans
      (Equation.kernel_eq hA b o n).symm
  funext i
  have hi : i = ix3 (i 0) (i 1) (i 2) := by
    funext a
    match a with
    | ⟨0, _⟩ => rfl
    | ⟨1, _⟩ => rfl
    | ⟨2, _⟩ => rfl
  exact (congrArg (RefRest.result X) hi).trans (at3 (i 0) (i 1) (i 2))

/-- The reference's run ends with its result array. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v145)
          = RefRest.result (StableHlo.launchContents m c)) :=
  (θ_run _ _ _).mono (fun r h c => (h c).1) (Cert.ReferenceIdeal.Value.run m ρ)

/-- The kernel and the reference agree on what the precondition admits. -/
theorem agree : Cert.algebraic_KernelIdeal_ReferenceIdeal_pre_finite_and_untied := by
  intro m g m' g' hpre hargs
  refine ⟨fun c => KernelRun.out m c, ?_, ?_⟩
  · exact (θ_run _ _ _).mono (fun r h c => ⟨h.1 c, h.2 c⟩)
      (θ_run_and (KernelRun.run m g) (Cert.KernelIdeal.Gen.unchanged m g))
  · have value (c : Dev Cert.ReferenceIdeal.nD) : RefRest.result (StableHlo.launchContents m' c) = KernelRun.out m c := by
      refine reference_result (KernelValue.argsOf m c) (Pre.good m hpre c) (StableHlo.launchContents m' c) ?_
      obtain ⟨h0, h1, h2, h3, h4, h5, h6, h7, h8, h9, h10, h11, h12, h13, h14, h15, h16, h17, h18, h19, h20, h21⟩ := hargs c
      simp only [RefRest.argsOf, KernelValue.argsOf, Args.mk.injEq]
      exact ⟨funext fun _ => funext fun _ => funext fun _ => congrFun h0 _,
        funext fun _ => funext fun _ => funext fun _ => congrFun h1 _,
        funext fun _ => funext fun _ => funext fun _ => congrFun h2 _,
        funext fun _ => funext fun _ => funext fun _ => congrFun h3 _,
        funext fun _ => funext fun _ => congrFun h4 _,
        funext fun _ => funext fun _ => congrFun h5 _,
        funext fun _ => funext fun _ => congrFun h6 _,
        funext fun _ => congrFun h7 _,
        funext fun _ => congrFun h8 _,
        funext fun _ => congrFun h9 _,
        funext fun _ => funext fun _ => congrFun h10 _,
        funext fun _ => congrFun h11 _,
        funext fun _ => congrFun h12 _,
        funext fun _ => congrFun h13 _,
        funext fun _ => funext fun _ => congrFun h14 _,
        funext fun _ => congrFun h15 _,
        funext fun _ => congrFun h16 _,
        funext fun _ => congrFun h17 _,
        funext fun _ => funext fun _ => congrFun h18 _,
        funext fun _ => congrFun h19 _,
        funext fun _ => funext fun _ => congrFun h20 _,
        funext fun _ => congrFun h21 _⟩
    have kept := (θ_run _ _ _).mono (fun r h c => (h c).2) (Cert.ReferenceIdeal.Value.run m' g')
    exact (θ_run _ _ _).mono (fun r h c => ⟨(h.1 c).trans (value c), h.2 c⟩) (θ_run_and (reference_run m' g') kept)

theorem claim : Cert.Claim :=
  ⟨Cert.Kernel.Gen.facts, Cert.KernelIdeal.Gen.facts, Cert.ReferenceIdeal.Gen.facts, Pre.facts,
    fun m ρ _ => Cert.Kernel.Gen.frame m ρ, fun m ρ _ => Cert.KernelIdeal.Gen.frame m ρ,
    fun m ρ _ => Cert.KernelIdeal.Gen.frame m ρ,
    frame_reference, fun m ρ _ => frame_reference m ρ trivial, trivial, agree⟩

end Cert.Proof

end
